-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_RecOut (m : (ℓ : Loc Cert.RecOut.nD Cert.RecOut.τ Cert.RecOut.sig) → Buf (Elt Bits) ℓ) : Prop :=
  True

def Pre_RecOutIdeal (m : (ℓ : Loc Cert.RecOutIdeal.nD Cert.RecOutIdeal.τ Cert.RecOutIdeal.sig) → Buf (Elt Ideal) ℓ) : Prop :=
  True

def Pre_RecOutRefIdeal (m : (ℓ : Loc Cert.RecOutRefIdeal.nD Cert.RecOutRefIdeal.τ Cert.RecOutRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_RecIn (m : (ℓ : Loc Cert.RecIn.nD Cert.RecIn.τ Cert.RecIn.sig) → Buf (Elt Bits) ℓ) : Prop :=
  True

def Pre_RecInIdeal (m : (ℓ : Loc Cert.RecInIdeal.nD Cert.RecInIdeal.τ Cert.RecInIdeal.sig) → Buf (Elt Ideal) ℓ) : Prop :=
  True

def Pre_RecInRefIdeal (m : (ℓ : Loc Cert.RecInRefIdeal.nD Cert.RecInRefIdeal.τ Cert.RecInRefIdeal.sig) → Buf (Elt Ideal) ℓ) : Prop :=
  True

def Pre_AttIn (m : (ℓ : Loc Cert.AttIn.nD Cert.AttIn.τ Cert.AttIn.sig) → Buf (Elt Bits) ℓ) : Prop :=
  True

def Pre_AttInIdeal (m : (ℓ : Loc Cert.AttInIdeal.nD Cert.AttInIdeal.τ Cert.AttInIdeal.sig) → Buf (Elt Ideal) ℓ) : Prop :=
  True

def Pre_AttInIdeal_finite [hPre_finite : Cert.Pre_finite.Facts] (m : (ℓ : Loc Cert.AttInIdeal.nD Cert.AttInIdeal.τ Cert.AttInIdeal.sig) → Buf (Elt Ideal) ℓ) : Prop :=
  ∀ c : Dev Cert.AttInIdeal.nD,
    (Cert.Pre_finite.fn (F := Ideal) (m ((c.tc : Thread Cert.AttInIdeal.nD Cert.AttInIdeal.τ).loc Cert.AttInIdeal.main_arg0)) (m ((c.tc : Thread Cert.AttInIdeal.nD Cert.AttInIdeal.τ).loc Cert.AttInIdeal.main_arg1))) = (fun _ => 1#1)

def Pre_AttInRefIdeal (m : (ℓ : Loc Cert.AttInRefIdeal.nD Cert.AttInRefIdeal.τ Cert.AttInRefIdeal.sig) → Buf (Elt Ideal) ℓ) : Prop :=
  True

def Pre_AttInRefIdeal_finite [hPre_finite : Cert.Pre_finite.Facts] (m : (ℓ : Loc Cert.AttInRefIdeal.nD Cert.AttInRefIdeal.τ Cert.AttInRefIdeal.sig) → Buf (Elt Ideal) ℓ) : Prop :=
  ∀ c : Dev Cert.AttInRefIdeal.nD,
    (Cert.Pre_finite.fn (F := Ideal) (m ((c.tc : Thread Cert.AttInRefIdeal.nD Cert.AttInRefIdeal.τ).loc Cert.AttInRefIdeal.main_arg0)) (m ((c.tc : Thread Cert.AttInRefIdeal.nD Cert.AttInRefIdeal.τ).loc Cert.AttInRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_RecOut [hRecOut : Cert.RecOut.Facts] : Prop :=
  ∀ (m : (ℓ : Loc Cert.RecOut.nD Cert.RecOut.τ Cert.RecOut.sig) → Buf (Elt Bits) ℓ) (g : Dev Cert.RecOut.nD → PrngReg), Pre_RecOut m →
    θ_run (Cert.RecOut.defs (F := Bits)) (onTc (τ := Cert.RecOut.τ) (Cert.RecOut.main (F := Bits))) ⟨m, fun _ => 0, g⟩ (fun r => (∀ c : Dev Cert.RecOut.nD,
      r.2.mem ((c.tc : Thread Cert.RecOut.nD Cert.RecOut.τ).loc Cert.RecOut.main_arg0) = m ((c.tc : Thread Cert.RecOut.nD Cert.RecOut.τ).loc Cert.RecOut.main_arg0)
      ∧ r.2.mem ((c.tc : Thread Cert.RecOut.nD Cert.RecOut.τ).loc Cert.RecOut.main_arg1) = m ((c.tc : Thread Cert.RecOut.nD Cert.RecOut.τ).loc Cert.RecOut.main_arg1)
      ∧ r.2.mem ((c.tc : Thread Cert.RecOut.nD Cert.RecOut.τ).loc Cert.RecOut.main_arg2) = m ((c.tc : Thread Cert.RecOut.nD Cert.RecOut.τ).loc Cert.RecOut.main_arg2)
      ∧ r.2.mem ((c.tc : Thread Cert.RecOut.nD Cert.RecOut.τ).loc Cert.RecOut.main_arg3) = m ((c.tc : Thread Cert.RecOut.nD Cert.RecOut.τ).loc Cert.RecOut.main_arg3))
      ∧ r.2.sem = fun _ => 0)

def quiescent_RecOutIdeal [hRecOutIdeal : Cert.RecOutIdeal.Facts] : Prop :=
  ∀ (m : (ℓ : Loc Cert.RecOutIdeal.nD Cert.RecOutIdeal.τ Cert.RecOutIdeal.sig) → Buf (Elt Ideal) ℓ) (g : Dev Cert.RecOutIdeal.nD → PrngReg), Pre_RecOutIdeal m →
    θ_run (Cert.RecOutIdeal.defs (F := Ideal)) (onTc (τ := Cert.RecOutIdeal.τ) (Cert.RecOutIdeal.main (F := Ideal))) ⟨m, fun _ => 0, g⟩ (fun r => (∀ c : Dev Cert.RecOutIdeal.nD,
      r.2.mem ((c.tc : Thread Cert.RecOutIdeal.nD Cert.RecOutIdeal.τ).loc Cert.RecOutIdeal.main_arg0) = m ((c.tc : Thread Cert.RecOutIdeal.nD Cert.RecOutIdeal.τ).loc Cert.RecOutIdeal.main_arg0)
      ∧ r.2.mem ((c.tc : Thread Cert.RecOutIdeal.nD Cert.RecOutIdeal.τ).loc Cert.RecOutIdeal.main_arg1) = m ((c.tc : Thread Cert.RecOutIdeal.nD Cert.RecOutIdeal.τ).loc Cert.RecOutIdeal.main_arg1)
      ∧ r.2.mem ((c.tc : Thread Cert.RecOutIdeal.nD Cert.RecOutIdeal.τ).loc Cert.RecOutIdeal.main_arg2) = m ((c.tc : Thread Cert.RecOutIdeal.nD Cert.RecOutIdeal.τ).loc Cert.RecOutIdeal.main_arg2)
      ∧ r.2.mem ((c.tc : Thread Cert.RecOutIdeal.nD Cert.RecOutIdeal.τ).loc Cert.RecOutIdeal.main_arg3) = m ((c.tc : Thread Cert.RecOutIdeal.nD Cert.RecOutIdeal.τ).loc Cert.RecOutIdeal.main_arg3))
      ∧ r.2.sem = fun _ => 0)

def quiescent_RecOutRefIdeal [hRecOutRefIdeal : Cert.RecOutRefIdeal.Facts] : Prop :=
  ∀ (m : (ℓ : Loc Cert.RecOutRefIdeal.nD Cert.RecOutRefIdeal.τ Cert.RecOutRefIdeal.sig) → Buf (Elt Ideal) ℓ) (g : Dev Cert.RecOutRefIdeal.nD → PrngReg), Pre_RecOutRefIdeal m →
    θ_run (Cert.RecOutRefIdeal.defs (F := Ideal)) (onTc (τ := Cert.RecOutRefIdeal.τ) (Cert.RecOutRefIdeal.main (F := Ideal))) ⟨m, fun _ => 0, g⟩ (fun r => (∀ c : Dev Cert.RecOutRefIdeal.nD,
      r.2.mem ((c.tc : Thread Cert.RecOutRefIdeal.nD Cert.RecOutRefIdeal.τ).loc Cert.RecOutRefIdeal.main_arg0) = m ((c.tc : Thread Cert.RecOutRefIdeal.nD Cert.RecOutRefIdeal.τ).loc Cert.RecOutRefIdeal.main_arg0)
      ∧ r.2.mem ((c.tc : Thread Cert.RecOutRefIdeal.nD Cert.RecOutRefIdeal.τ).loc Cert.RecOutRefIdeal.main_arg1) = m ((c.tc : Thread Cert.RecOutRefIdeal.nD Cert.RecOutRefIdeal.τ).loc Cert.RecOutRefIdeal.main_arg1)
      ∧ r.2.mem ((c.tc : Thread Cert.RecOutRefIdeal.nD Cert.RecOutRefIdeal.τ).loc Cert.RecOutRefIdeal.main_arg2) = m ((c.tc : Thread Cert.RecOutRefIdeal.nD Cert.RecOutRefIdeal.τ).loc Cert.RecOutRefIdeal.main_arg2)
      ∧ r.2.mem ((c.tc : Thread Cert.RecOutRefIdeal.nD Cert.RecOutRefIdeal.τ).loc Cert.RecOutRefIdeal.main_arg3) = m ((c.tc : Thread Cert.RecOutRefIdeal.nD Cert.RecOutRefIdeal.τ).loc Cert.RecOutRefIdeal.main_arg3))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1)
      ∧ r.2.mem ((c.tc : Thread Cert.AttOut.nD Cert.AttOut.τ).loc Cert.AttOut.main_arg2) = m ((c.tc : Thread Cert.AttOut.nD Cert.AttOut.τ).loc Cert.AttOut.main_arg2)
      ∧ r.2.mem ((c.tc : Thread Cert.AttOut.nD Cert.AttOut.τ).loc Cert.AttOut.main_arg3) = m ((c.tc : Thread Cert.AttOut.nD Cert.AttOut.τ).loc Cert.AttOut.main_arg3)
      ∧ r.2.mem ((c.tc : Thread Cert.AttOut.nD Cert.AttOut.τ).loc Cert.AttOut.main_arg4) = m ((c.tc : Thread Cert.AttOut.nD Cert.AttOut.τ).loc Cert.AttOut.main_arg4))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
      ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2)
      ∧ r.2.mem ((c.tc : Thread Cert.AttOutIdeal.nD Cert.AttOutIdeal.τ).loc Cert.AttOutIdeal.main_arg3) = m ((c.tc : Thread Cert.AttOutIdeal.nD Cert.AttOutIdeal.τ).loc Cert.AttOutIdeal.main_arg3)
      ∧ r.2.mem ((c.tc : Thread Cert.AttOutIdeal.nD Cert.AttOutIdeal.τ).loc Cert.AttOutIdeal.main_arg4) = m ((c.tc : Thread Cert.AttOutIdeal.nD Cert.AttOutIdeal.τ).loc Cert.AttOutIdeal.main_arg4))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1)
      ∧ r.2.mem ((c.tc : Thread Cert.AttOutRefIdeal.nD Cert.AttOutRefIdeal.τ).loc Cert.AttOutRefIdeal.main_arg2) = m ((c.tc : Thread Cert.AttOutRefIdeal.nD Cert.AttOutRefIdeal.τ).loc Cert.AttOutRefIdeal.main_arg2)
      ∧ r.2.mem ((c.tc : Thread Cert.AttOutRefIdeal.nD Cert.AttOutRefIdeal.τ).loc Cert.AttOutRefIdeal.main_arg3) = m ((c.tc : Thread Cert.AttOutRefIdeal.nD Cert.AttOutRefIdeal.τ).loc Cert.AttOutRefIdeal.main_arg3)
      ∧ r.2.mem ((c.tc : Thread Cert.AttOutRefIdeal.nD Cert.AttOutRefIdeal.τ).loc Cert.AttOutRefIdeal.main_arg4) = m ((c.tc : Thread Cert.AttOutRefIdeal.nD Cert.AttOutRefIdeal.τ).loc Cert.AttOutRefIdeal.main_arg4))
      ∧ r.2.sem = fun _ => 0)

def quiescent_RecIn [hRecIn : Cert.RecIn.Facts] : Prop :=
  ∀ (m : (ℓ : Loc Cert.RecIn.nD Cert.RecIn.τ Cert.RecIn.sig) → Buf (Elt Bits) ℓ) (g : Dev Cert.RecIn.nD → PrngReg), Pre_RecIn m →
    θ_run (Cert.RecIn.defs (F := Bits)) (onTc (τ := Cert.RecIn.τ) (Cert.RecIn.main (F := Bits))) ⟨m, fun _ => 0, g⟩ (fun r => (∀ c : Dev Cert.RecIn.nD,
      r.2.mem ((c.tc : Thread Cert.RecIn.nD Cert.RecIn.τ).loc Cert.RecIn.main_arg0) = m ((c.tc : Thread Cert.RecIn.nD Cert.RecIn.τ).loc Cert.RecIn.main_arg0)
      ∧ r.2.mem ((c.tc : Thread Cert.RecIn.nD Cert.RecIn.τ).loc Cert.RecIn.main_arg1) = m ((c.tc : Thread Cert.RecIn.nD Cert.RecIn.τ).loc Cert.RecIn.main_arg1)
      ∧ r.2.mem ((c.tc : Thread Cert.RecIn.nD Cert.RecIn.τ).loc Cert.RecIn.main_arg2) = m ((c.tc : Thread Cert.RecIn.nD Cert.RecIn.τ).loc Cert.RecIn.main_arg2))
      ∧ r.2.sem = fun _ => 0)

def quiescent_RecInIdeal [hRecInIdeal : Cert.RecInIdeal.Facts] : Prop :=
  ∀ (m : (ℓ : Loc Cert.RecInIdeal.nD Cert.RecInIdeal.τ Cert.RecInIdeal.sig) → Buf (Elt Ideal) ℓ) (g : Dev Cert.RecInIdeal.nD → PrngReg), Pre_RecInIdeal m →
    θ_run (Cert.RecInIdeal.defs (F := Ideal)) (onTc (τ := Cert.RecInIdeal.τ) (Cert.RecInIdeal.main (F := Ideal))) ⟨m, fun _ => 0, g⟩ (fun r => (∀ c : Dev Cert.RecInIdeal.nD,
      r.2.mem ((c.tc : Thread Cert.RecInIdeal.nD Cert.RecInIdeal.τ).loc Cert.RecInIdeal.main_arg0) = m ((c.tc : Thread Cert.RecInIdeal.nD Cert.RecInIdeal.τ).loc Cert.RecInIdeal.main_arg0)
      ∧ r.2.mem ((c.tc : Thread Cert.RecInIdeal.nD Cert.RecInIdeal.τ).loc Cert.RecInIdeal.main_arg1) = m ((c.tc : Thread Cert.RecInIdeal.nD Cert.RecInIdeal.τ).loc Cert.RecInIdeal.main_arg1)
      ∧ r.2.mem ((c.tc : Thread Cert.RecInIdeal.nD Cert.RecInIdeal.τ).loc Cert.RecInIdeal.main_arg2) = m ((c.tc : Thread Cert.RecInIdeal.nD Cert.RecInIdeal.τ).loc Cert.RecInIdeal.main_arg2))
      ∧ r.2.sem = fun _ => 0)

def quiescent_RecInRefIdeal [hRecInRefIdeal : Cert.RecInRefIdeal.Facts] : Prop :=
  ∀ (m : (ℓ : Loc Cert.RecInRefIdeal.nD Cert.RecInRefIdeal.τ Cert.RecInRefIdeal.sig) → Buf (Elt Ideal) ℓ) (g : Dev Cert.RecInRefIdeal.nD → PrngReg), Pre_RecInRefIdeal m →
    θ_run (Cert.RecInRefIdeal.defs (F := Ideal)) (onTc (τ := Cert.RecInRefIdeal.τ) (Cert.RecInRefIdeal.main (F := Ideal))) ⟨m, fun _ => 0, g⟩ (fun r => (∀ c : Dev Cert.RecInRefIdeal.nD,
      r.2.mem ((c.tc : Thread Cert.RecInRefIdeal.nD Cert.RecInRefIdeal.τ).loc Cert.RecInRefIdeal.main_arg0) = m ((c.tc : Thread Cert.RecInRefIdeal.nD Cert.RecInRefIdeal.τ).loc Cert.RecInRefIdeal.main_arg0)
      ∧ r.2.mem ((c.tc : Thread Cert.RecInRefIdeal.nD Cert.RecInRefIdeal.τ).loc Cert.RecInRefIdeal.main_arg1) = m ((c.tc : Thread Cert.RecInRefIdeal.nD Cert.RecInRefIdeal.τ).loc Cert.RecInRefIdeal.main_arg1)
      ∧ r.2.mem ((c.tc : Thread Cert.RecInRefIdeal.nD Cert.RecInRefIdeal.τ).loc Cert.RecInRefIdeal.main_arg2) = m ((c.tc : Thread Cert.RecInRefIdeal.nD Cert.RecInRefIdeal.τ).loc Cert.RecInRefIdeal.main_arg2))
      ∧ r.2.sem = fun _ => 0)

def quiescent_AttIn [hAttIn : Cert.AttIn.Facts] : Prop :=
  ∀ (m : (ℓ : Loc Cert.AttIn.nD Cert.AttIn.τ Cert.AttIn.sig) → Buf (Elt Bits) ℓ) (g : Dev Cert.AttIn.nD → PrngReg), Pre_AttIn m →
    θ_run (Cert.AttIn.defs (F := Bits)) (onTc (τ := Cert.AttIn.τ) (Cert.AttIn.main (F := Bits))) ⟨m, fun _ => 0, g⟩ (fun r => (∀ c : Dev Cert.AttIn.nD,
      r.2.mem ((c.tc : Thread Cert.AttIn.nD Cert.AttIn.τ).loc Cert.AttIn.main_arg0) = m ((c.tc : Thread Cert.AttIn.nD Cert.AttIn.τ).loc Cert.AttIn.main_arg0)
      ∧ r.2.mem ((c.tc : Thread Cert.AttIn.nD Cert.AttIn.τ).loc Cert.AttIn.main_arg1) = m ((c.tc : Thread Cert.AttIn.nD Cert.AttIn.τ).loc Cert.AttIn.main_arg1))
      ∧ r.2.sem = fun _ => 0)

def quiescent_AttInIdeal [hAttInIdeal : Cert.AttInIdeal.Facts] : Prop :=
  ∀ (m : (ℓ : Loc Cert.AttInIdeal.nD Cert.AttInIdeal.τ Cert.AttInIdeal.sig) → Buf (Elt Ideal) ℓ) (g : Dev Cert.AttInIdeal.nD → PrngReg), Pre_AttInIdeal m →
    θ_run (Cert.AttInIdeal.defs (F := Ideal)) (onTc (τ := Cert.AttInIdeal.τ) (Cert.AttInIdeal.main (F := Ideal))) ⟨m, fun _ => 0, g⟩ (fun r => (∀ c : Dev Cert.AttInIdeal.nD,
      r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
      ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1))
      ∧ r.2.sem = fun _ => 0)

def quiescent_AttInIdeal_pre_finite [hAttInIdeal : Cert.AttInIdeal.Facts] [hPre_finite : Cert.Pre_finite.Facts] : Prop :=
  ∀ (m : (ℓ : Loc Cert.AttInIdeal.nD Cert.AttInIdeal.τ Cert.AttInIdeal.sig) → Buf (Elt Ideal) ℓ) (g : Dev Cert.AttInIdeal.nD → PrngReg), Pre_AttInIdeal_finite m →
    θ_run (Cert.AttInIdeal.defs (F := Ideal)) (onTc (τ := Cert.AttInIdeal.τ) (Cert.AttInIdeal.main (F := Ideal))) ⟨m, fun _ => 0, g⟩ (fun r => (∀ c : Dev Cert.AttInIdeal.nD,
      r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
      ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1))
      ∧ r.2.sem = fun _ => 0)

def quiescent_AttInRefIdeal [hAttInRefIdeal : Cert.AttInRefIdeal.Facts] : Prop :=
  ∀ (m : (ℓ : Loc Cert.AttInRefIdeal.nD Cert.AttInRefIdeal.τ Cert.AttInRefIdeal.sig) → Buf (Elt Ideal) ℓ) (g : Dev Cert.AttInRefIdeal.nD → PrngReg), Pre_AttInRefIdeal m →
    θ_run (Cert.AttInRefIdeal.defs (F := Ideal)) (onTc (τ := Cert.AttInRefIdeal.τ) (Cert.AttInRefIdeal.main (F := Ideal))) ⟨m, fun _ => 0, g⟩ (fun r => (∀ c : Dev Cert.AttInRefIdeal.nD,
      r.2.mem ((c.tc : Thread Cert.AttInRefIdeal.nD Cert.AttInRefIdeal.τ).loc Cert.AttInRefIdeal.main_arg0) = m ((c.tc : Thread Cert.AttInRefIdeal.nD Cert.AttInRefIdeal.τ).loc Cert.AttInRefIdeal.main_arg0)
      ∧ r.2.mem ((c.tc : Thread Cert.AttInRefIdeal.nD Cert.AttInRefIdeal.τ).loc Cert.AttInRefIdeal.main_arg1) = m ((c.tc : Thread Cert.AttInRefIdeal.nD Cert.AttInRefIdeal.τ).loc Cert.AttInRefIdeal.main_arg1))
      ∧ r.2.sem = fun _ => 0)

def quiescent_AttInRefIdeal_pre_finite [hAttInRefIdeal : Cert.AttInRefIdeal.Facts] [hPre_finite : Cert.Pre_finite.Facts] : Prop :=
  ∀ (m : (ℓ : Loc Cert.AttInRefIdeal.nD Cert.AttInRefIdeal.τ Cert.AttInRefIdeal.sig) → Buf (Elt Ideal) ℓ) (g : Dev Cert.AttInRefIdeal.nD → PrngReg), Pre_AttInRefIdeal_finite m →
    θ_run (Cert.AttInRefIdeal.defs (F := Ideal)) (onTc (τ := Cert.AttInRefIdeal.τ) (Cert.AttInRefIdeal.main (F := Ideal))) ⟨m, fun _ => 0, g⟩ (fun r => (∀ c : Dev Cert.AttInRefIdeal.nD,
      r.2.mem ((c.tc : Thread Cert.AttInRefIdeal.nD Cert.AttInRefIdeal.τ).loc Cert.AttInRefIdeal.main_arg0) = m ((c.tc : Thread Cert.AttInRefIdeal.nD Cert.AttInRefIdeal.τ).loc Cert.AttInRefIdeal.main_arg0)
      ∧ r.2.mem ((c.tc : Thread Cert.AttInRefIdeal.nD Cert.AttInRefIdeal.τ).loc Cert.AttInRefIdeal.main_arg1) = m ((c.tc : Thread Cert.AttInRefIdeal.nD Cert.AttInRefIdeal.τ).loc Cert.AttInRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v39) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v10_0)) (v1 : (c : Dev Cert.FfnDownIdeal.nD) → Buf (Elt Ideal) ((c.tc : Thread Cert.FfnDownIdeal.nD Cert.FfnDownIdeal.τ).loc Cert.FfnDownIdeal.main_v10_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v10_0) = v0 c
          ∧ r.2.mem ((c.tc : Thread Cert.FfnDownIdeal.nD Cert.FfnDownIdeal.τ).loc Cert.FfnDownIdeal.main_v10_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v6) = v0 c
          ∧ r.2.mem ((c.tc : Thread Cert.FfnDownRefIdeal.nD Cert.FfnDownRefIdeal.τ).loc Cert.FfnDownRefIdeal.main_v24) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_RecOut_RecOutIdeal : Prop :=
  True

def algebraic_RecOutIdeal_RecOutRefIdeal [hRecOutIdeal : Cert.RecOutIdeal.Facts] [hRecOutRefIdeal : Cert.RecOutRefIdeal.Facts] : Prop :=
  ∀ (m : (ℓ : Loc Cert.RecOutIdeal.nD Cert.RecOutIdeal.τ Cert.RecOutIdeal.sig) → Buf (Elt Ideal) ℓ) (g : Dev Cert.RecOutIdeal.nD → PrngReg)
    (m' : (ℓ : Loc Cert.RecOutRefIdeal.nD Cert.RecOutRefIdeal.τ Cert.RecOutRefIdeal.sig) → Buf (Elt Ideal) ℓ) (g' : Dev Cert.RecOutRefIdeal.nD → PrngReg), Pre_RecOutIdeal m →
    (∀ c : Dev Cert.RecOutIdeal.nD,
      m' ((c.tc : Thread Cert.RecOutRefIdeal.nD Cert.RecOutRefIdeal.τ).loc Cert.RecOutRefIdeal.main_arg0) = m ((c.tc : Thread Cert.RecOutIdeal.nD Cert.RecOutIdeal.τ).loc Cert.RecOutIdeal.main_arg0)
      ∧ m' ((c.tc : Thread Cert.RecOutRefIdeal.nD Cert.RecOutRefIdeal.τ).loc Cert.RecOutRefIdeal.main_arg1) = m ((c.tc : Thread Cert.RecOutIdeal.nD Cert.RecOutIdeal.τ).loc Cert.RecOutIdeal.main_arg1)
      ∧ m' ((c.tc : Thread Cert.RecOutRefIdeal.nD Cert.RecOutRefIdeal.τ).loc Cert.RecOutRefIdeal.main_arg2) = m ((c.tc : Thread Cert.RecOutIdeal.nD Cert.RecOutIdeal.τ).loc Cert.RecOutIdeal.main_arg2)
      ∧ m' ((c.tc : Thread Cert.RecOutRefIdeal.nD Cert.RecOutRefIdeal.τ).loc Cert.RecOutRefIdeal.main_arg3) = m ((c.tc : Thread Cert.RecOutIdeal.nD Cert.RecOutIdeal.τ).loc Cert.RecOutIdeal.main_arg3)) →
    ∃ (v0 : (c : Dev Cert.RecOutIdeal.nD) → Buf (Elt Ideal) ((c.tc : Thread Cert.RecOutIdeal.nD Cert.RecOutIdeal.τ).loc Cert.RecOutIdeal.main_v10_0)) (v1 : (c : Dev Cert.RecOutIdeal.nD) → Buf (Elt Ideal) ((c.tc : Thread Cert.RecOutIdeal.nD Cert.RecOutIdeal.τ).loc Cert.RecOutIdeal.main_v10_1)),
      θ_run (Cert.RecOutIdeal.defs (F := Ideal)) (onTc (τ := Cert.RecOutIdeal.τ) (Cert.RecOutIdeal.main (F := Ideal))) ⟨m, fun _ => 0, g⟩ (fun r => ∀ c : Dev Cert.RecOutIdeal.nD,
          r.2.mem ((c.tc : Thread Cert.RecOutIdeal.nD Cert.RecOutIdeal.τ).loc Cert.RecOutIdeal.main_v10_0) = v0 c
          ∧ r.2.mem ((c.tc : Thread Cert.RecOutIdeal.nD Cert.RecOutIdeal.τ).loc Cert.RecOutIdeal.main_v10_1) = v1 c
          ∧ r.2.mem ((c.tc : Thread Cert.RecOutIdeal.nD Cert.RecOutIdeal.τ).loc Cert.RecOutIdeal.main_arg0) = m ((c.tc : Thread Cert.RecOutIdeal.nD Cert.RecOutIdeal.τ).loc Cert.RecOutIdeal.main_arg0)
          ∧ r.2.mem ((c.tc : Thread Cert.RecOutIdeal.nD Cert.RecOutIdeal.τ).loc Cert.RecOutIdeal.main_arg1) = m ((c.tc : Thread Cert.RecOutIdeal.nD Cert.RecOutIdeal.τ).loc Cert.RecOutIdeal.main_arg1)
          ∧ r.2.mem ((c.tc : Thread Cert.RecOutIdeal.nD Cert.RecOutIdeal.τ).loc Cert.RecOutIdeal.main_arg2) = m ((c.tc : Thread Cert.RecOutIdeal.nD Cert.RecOutIdeal.τ).loc Cert.RecOutIdeal.main_arg2)
          ∧ r.2.mem ((c.tc : Thread Cert.RecOutIdeal.nD Cert.RecOutIdeal.τ).loc Cert.RecOutIdeal.main_arg3) = m ((c.tc : Thread Cert.RecOutIdeal.nD Cert.RecOutIdeal.τ).loc Cert.RecOutIdeal.main_arg3))
      ∧ θ_run (Cert.RecOutRefIdeal.defs (F := Ideal)) (onTc (τ := Cert.RecOutRefIdeal.τ) (Cert.RecOutRefIdeal.main (F := Ideal))) ⟨m', fun _ => 0, g'⟩ (fun r => ∀ c : Dev Cert.RecOutRefIdeal.nD,
          r.2.mem ((c.tc : Thread Cert.RecOutRefIdeal.nD Cert.RecOutRefIdeal.τ).loc Cert.RecOutRefIdeal.main_v6) = v0 c
          ∧ r.2.mem ((c.tc : Thread Cert.RecOutRefIdeal.nD Cert.RecOutRefIdeal.τ).loc Cert.RecOutRefIdeal.main_v24) = v1 c
          ∧ r.2.mem ((c.tc : Thread Cert.RecOutRefIdeal.nD Cert.RecOutRefIdeal.τ).loc Cert.RecOutRefIdeal.main_arg0) = m' ((c.tc : Thread Cert.RecOutRefIdeal.nD Cert.RecOutRefIdeal.τ).loc Cert.RecOutRefIdeal.main_arg0)
          ∧ r.2.mem ((c.tc : Thread Cert.RecOutRefIdeal.nD Cert.RecOutRefIdeal.τ).loc Cert.RecOutRefIdeal.main_arg1) = m' ((c.tc : Thread Cert.RecOutRefIdeal.nD Cert.RecOutRefIdeal.τ).loc Cert.RecOutRefIdeal.main_arg1)
          ∧ r.2.mem ((c.tc : Thread Cert.RecOutRefIdeal.nD Cert.RecOutRefIdeal.τ).loc Cert.RecOutRefIdeal.main_arg2) = m' ((c.tc : Thread Cert.RecOutRefIdeal.nD Cert.RecOutRefIdeal.τ).loc Cert.RecOutRefIdeal.main_arg2)
          ∧ r.2.mem ((c.tc : Thread Cert.RecOutRefIdeal.nD Cert.RecOutRefIdeal.τ).loc Cert.RecOutRefIdeal.main_arg3) = m' ((c.tc : Thread Cert.RecOutRefIdeal.nD Cert.RecOutRefIdeal.τ).loc Cert.RecOutRefIdeal.main_arg3))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)
      ∧ m' ((c.tc : Thread Cert.AttOutRefIdeal.nD Cert.AttOutRefIdeal.τ).loc Cert.AttOutRefIdeal.main_arg2) = m ((c.tc : Thread Cert.AttOutIdeal.nD Cert.AttOutIdeal.τ).loc Cert.AttOutIdeal.main_arg2)
      ∧ m' ((c.tc : Thread Cert.AttOutRefIdeal.nD Cert.AttOutRefIdeal.τ).loc Cert.AttOutRefIdeal.main_arg3) = m ((c.tc : Thread Cert.AttOutIdeal.nD Cert.AttOutIdeal.τ).loc Cert.AttOutIdeal.main_arg3)
      ∧ m' ((c.tc : Thread Cert.AttOutRefIdeal.nD Cert.AttOutRefIdeal.τ).loc Cert.AttOutRefIdeal.main_arg4) = m ((c.tc : Thread Cert.AttOutIdeal.nD Cert.AttOutIdeal.τ).loc Cert.AttOutIdeal.main_arg4)) →
    ∃ (v0 : (c : Dev Cert.AttOutIdeal.nD) → Buf (Elt Ideal) ((c.tc : Thread Cert.AttOutIdeal.nD Cert.AttOutIdeal.τ).loc Cert.AttOutIdeal.main_v13_0)) (v1 : (c : Dev Cert.AttOutIdeal.nD) → Buf (Elt Ideal) ((c.tc : Thread Cert.AttOutIdeal.nD Cert.AttOutIdeal.τ).loc Cert.AttOutIdeal.main_v13_1)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v13_0) = v0 c
          ∧ r.2.mem ((c.tc : Thread Cert.AttOutIdeal.nD Cert.AttOutIdeal.τ).loc Cert.AttOutIdeal.main_v13_1) = v1 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2)
          ∧ r.2.mem ((c.tc : Thread Cert.AttOutIdeal.nD Cert.AttOutIdeal.τ).loc Cert.AttOutIdeal.main_arg3) = m ((c.tc : Thread Cert.AttOutIdeal.nD Cert.AttOutIdeal.τ).loc Cert.AttOutIdeal.main_arg3)
          ∧ r.2.mem ((c.tc : Thread Cert.AttOutIdeal.nD Cert.AttOutIdeal.τ).loc Cert.AttOutIdeal.main_arg4) = m ((c.tc : Thread Cert.AttOutIdeal.nD Cert.AttOutIdeal.τ).loc Cert.AttOutIdeal.main_arg4))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v7) = v0 c
          ∧ r.2.mem ((c.tc : Thread Cert.AttOutRefIdeal.nD Cert.AttOutRefIdeal.τ).loc Cert.AttOutRefIdeal.main_v25) = v1 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1)
          ∧ r.2.mem ((c.tc : Thread Cert.AttOutRefIdeal.nD Cert.AttOutRefIdeal.τ).loc Cert.AttOutRefIdeal.main_arg2) = m' ((c.tc : Thread Cert.AttOutRefIdeal.nD Cert.AttOutRefIdeal.τ).loc Cert.AttOutRefIdeal.main_arg2)
          ∧ r.2.mem ((c.tc : Thread Cert.AttOutRefIdeal.nD Cert.AttOutRefIdeal.τ).loc Cert.AttOutRefIdeal.main_arg3) = m' ((c.tc : Thread Cert.AttOutRefIdeal.nD Cert.AttOutRefIdeal.τ).loc Cert.AttOutRefIdeal.main_arg3)
          ∧ r.2.mem ((c.tc : Thread Cert.AttOutRefIdeal.nD Cert.AttOutRefIdeal.τ).loc Cert.AttOutRefIdeal.main_arg4) = m' ((c.tc : Thread Cert.AttOutRefIdeal.nD Cert.AttOutRefIdeal.τ).loc Cert.AttOutRefIdeal.main_arg4))

def preserves_RecIn_RecInIdeal : Prop :=
  IdealRules.named_const.Statement Cert.RecInIdeal.κ "log2e" .f32 0x3FB8AA3B#32 (((Real.log 2)⁻¹ : ℝ) : EReal)

def algebraic_RecInIdeal_RecInRefIdeal [hRecInIdeal : Cert.RecInIdeal.Facts] [hRecInRefIdeal : Cert.RecInRefIdeal.Facts] : Prop :=
  ∀ (m : (ℓ : Loc Cert.RecInIdeal.nD Cert.RecInIdeal.τ Cert.RecInIdeal.sig) → Buf (Elt Ideal) ℓ) (g : Dev Cert.RecInIdeal.nD → PrngReg)
    (m' : (ℓ : Loc Cert.RecInRefIdeal.nD Cert.RecInRefIdeal.τ Cert.RecInRefIdeal.sig) → Buf (Elt Ideal) ℓ) (g' : Dev Cert.RecInRefIdeal.nD → PrngReg), Pre_RecInIdeal m →
    (∀ c : Dev Cert.RecInIdeal.nD,
      m' ((c.tc : Thread Cert.RecInRefIdeal.nD Cert.RecInRefIdeal.τ).loc Cert.RecInRefIdeal.main_arg0) = m ((c.tc : Thread Cert.RecInIdeal.nD Cert.RecInIdeal.τ).loc Cert.RecInIdeal.main_arg0)
      ∧ m' ((c.tc : Thread Cert.RecInRefIdeal.nD Cert.RecInRefIdeal.τ).loc Cert.RecInRefIdeal.main_arg1) = m ((c.tc : Thread Cert.RecInIdeal.nD Cert.RecInIdeal.τ).loc Cert.RecInIdeal.main_arg1)
      ∧ m' ((c.tc : Thread Cert.RecInRefIdeal.nD Cert.RecInRefIdeal.τ).loc Cert.RecInRefIdeal.main_arg2) = m ((c.tc : Thread Cert.RecInIdeal.nD Cert.RecInIdeal.τ).loc Cert.RecInIdeal.main_arg2)) →
    ∃ (v0 : (c : Dev Cert.RecInIdeal.nD) → Buf (Elt Ideal) ((c.tc : Thread Cert.RecInIdeal.nD Cert.RecInIdeal.τ).loc Cert.RecInIdeal.main_v9_0)) (v1 : (c : Dev Cert.RecInIdeal.nD) → Buf (Elt Ideal) ((c.tc : Thread Cert.RecInIdeal.nD Cert.RecInIdeal.τ).loc Cert.RecInIdeal.main_v9_1)) (v2 : (c : Dev Cert.RecInIdeal.nD) → Buf (Elt Ideal) ((c.tc : Thread Cert.RecInIdeal.nD Cert.RecInIdeal.τ).loc Cert.RecInIdeal.main_v9_2)) (v3 : (c : Dev Cert.RecInIdeal.nD) → Buf (Elt Ideal) ((c.tc : Thread Cert.RecInIdeal.nD Cert.RecInIdeal.τ).loc Cert.RecInIdeal.main_v9_3)),
      θ_run (Cert.RecInIdeal.defs (F := Ideal)) (onTc (τ := Cert.RecInIdeal.τ) (Cert.RecInIdeal.main (F := Ideal))) ⟨m, fun _ => 0, g⟩ (fun r => ∀ c : Dev Cert.RecInIdeal.nD,
          r.2.mem ((c.tc : Thread Cert.RecInIdeal.nD Cert.RecInIdeal.τ).loc Cert.RecInIdeal.main_v9_0) = v0 c
          ∧ r.2.mem ((c.tc : Thread Cert.RecInIdeal.nD Cert.RecInIdeal.τ).loc Cert.RecInIdeal.main_v9_1) = v1 c
          ∧ r.2.mem ((c.tc : Thread Cert.RecInIdeal.nD Cert.RecInIdeal.τ).loc Cert.RecInIdeal.main_v9_2) = v2 c
          ∧ r.2.mem ((c.tc : Thread Cert.RecInIdeal.nD Cert.RecInIdeal.τ).loc Cert.RecInIdeal.main_v9_3) = v3 c
          ∧ r.2.mem ((c.tc : Thread Cert.RecInIdeal.nD Cert.RecInIdeal.τ).loc Cert.RecInIdeal.main_arg0) = m ((c.tc : Thread Cert.RecInIdeal.nD Cert.RecInIdeal.τ).loc Cert.RecInIdeal.main_arg0)
          ∧ r.2.mem ((c.tc : Thread Cert.RecInIdeal.nD Cert.RecInIdeal.τ).loc Cert.RecInIdeal.main_arg1) = m ((c.tc : Thread Cert.RecInIdeal.nD Cert.RecInIdeal.τ).loc Cert.RecInIdeal.main_arg1)
          ∧ r.2.mem ((c.tc : Thread Cert.RecInIdeal.nD Cert.RecInIdeal.τ).loc Cert.RecInIdeal.main_arg2) = m ((c.tc : Thread Cert.RecInIdeal.nD Cert.RecInIdeal.τ).loc Cert.RecInIdeal.main_arg2))
      ∧ θ_run (Cert.RecInRefIdeal.defs (F := Ideal)) (onTc (τ := Cert.RecInRefIdeal.τ) (Cert.RecInRefIdeal.main (F := Ideal))) ⟨m', fun _ => 0, g'⟩ (fun r => ∀ c : Dev Cert.RecInRefIdeal.nD,
          r.2.mem ((c.tc : Thread Cert.RecInRefIdeal.nD Cert.RecInRefIdeal.τ).loc Cert.RecInRefIdeal.main_v32) = v0 c
          ∧ r.2.mem ((c.tc : Thread Cert.RecInRefIdeal.nD Cert.RecInRefIdeal.τ).loc Cert.RecInRefIdeal.main_v36) = v1 c
          ∧ r.2.mem ((c.tc : Thread Cert.RecInRefIdeal.nD Cert.RecInRefIdeal.τ).loc Cert.RecInRefIdeal.main_v37) = v2 c
          ∧ r.2.mem ((c.tc : Thread Cert.RecInRefIdeal.nD Cert.RecInRefIdeal.τ).loc Cert.RecInRefIdeal.main_v39) = v3 c
          ∧ r.2.mem ((c.tc : Thread Cert.RecInRefIdeal.nD Cert.RecInRefIdeal.τ).loc Cert.RecInRefIdeal.main_arg0) = m' ((c.tc : Thread Cert.RecInRefIdeal.nD Cert.RecInRefIdeal.τ).loc Cert.RecInRefIdeal.main_arg0)
          ∧ r.2.mem ((c.tc : Thread Cert.RecInRefIdeal.nD Cert.RecInRefIdeal.τ).loc Cert.RecInRefIdeal.main_arg1) = m' ((c.tc : Thread Cert.RecInRefIdeal.nD Cert.RecInRefIdeal.τ).loc Cert.RecInRefIdeal.main_arg1)
          ∧ r.2.mem ((c.tc : Thread Cert.RecInRefIdeal.nD Cert.RecInRefIdeal.τ).loc Cert.RecInRefIdeal.main_arg2) = m' ((c.tc : Thread Cert.RecInRefIdeal.nD Cert.RecInRefIdeal.τ).loc Cert.RecInRefIdeal.main_arg2))

def preserves_AttIn_AttInIdeal : Prop :=
  True

def algebraic_AttInIdeal_AttInRefIdeal_pre_finite [hAttInIdeal : Cert.AttInIdeal.Facts] [hAttInRefIdeal : Cert.AttInRefIdeal.Facts] [hPre_finite : Cert.Pre_finite.Facts] : Prop :=
  ∀ (m : (ℓ : Loc Cert.AttInIdeal.nD Cert.AttInIdeal.τ Cert.AttInIdeal.sig) → Buf (Elt Ideal) ℓ) (g : Dev Cert.AttInIdeal.nD → PrngReg)
    (m' : (ℓ : Loc Cert.AttInRefIdeal.nD Cert.AttInRefIdeal.τ Cert.AttInRefIdeal.sig) → Buf (Elt Ideal) ℓ) (g' : Dev Cert.AttInRefIdeal.nD → PrngReg), Pre_AttInIdeal_finite m →
    (∀ c : Dev Cert.AttInIdeal.nD,
      m' ((c.tc : Thread Cert.AttInRefIdeal.nD Cert.AttInRefIdeal.τ).loc Cert.AttInRefIdeal.main_arg0) = m ((c.tc : Thread Cert.AttInIdeal.nD Cert.AttInIdeal.τ).loc Cert.AttInIdeal.main_arg0)
      ∧ m' ((c.tc : Thread Cert.AttInRefIdeal.nD Cert.AttInRefIdeal.τ).loc Cert.AttInRefIdeal.main_arg1) = m ((c.tc : Thread Cert.AttInIdeal.nD Cert.AttInIdeal.τ).loc Cert.AttInIdeal.main_arg1)) →
    ∃ (v0 : (c : Dev Cert.AttInIdeal.nD) → Buf (Elt Ideal) ((c.tc : Thread Cert.AttInIdeal.nD Cert.AttInIdeal.τ).loc Cert.AttInIdeal.main_v15)),
      θ_run (Cert.AttInIdeal.defs (F := Ideal)) (onTc (τ := Cert.AttInIdeal.τ) (Cert.AttInIdeal.main (F := Ideal))) ⟨m, fun _ => 0, g⟩ (fun r => ∀ c : Dev Cert.AttInIdeal.nD,
          r.2.mem ((c.tc : Thread Cert.AttInIdeal.nD Cert.AttInIdeal.τ).loc Cert.AttInIdeal.main_v15) = v0 c
          ∧ r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
          ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1))
      ∧ θ_run (Cert.AttInRefIdeal.defs (F := Ideal)) (onTc (τ := Cert.AttInRefIdeal.τ) (Cert.AttInRefIdeal.main (F := Ideal))) ⟨m', fun _ => 0, g'⟩ (fun r => ∀ c : Dev Cert.AttInRefIdeal.nD,
          r.2.mem ((c.tc : Thread Cert.AttInRefIdeal.nD Cert.AttInRefIdeal.τ).loc Cert.AttInRefIdeal.main_v14) = v0 c
          ∧ r.2.mem ((c.tc : Thread Cert.AttInRefIdeal.nD Cert.AttInRefIdeal.τ).loc Cert.AttInRefIdeal.main_arg0) = m' ((c.tc : Thread Cert.AttInRefIdeal.nD Cert.AttInRefIdeal.τ).loc Cert.AttInRefIdeal.main_arg0)
          ∧ r.2.mem ((c.tc : Thread Cert.AttInRefIdeal.nD Cert.AttInRefIdeal.τ).loc Cert.AttInRefIdeal.main_arg1) = m' ((c.tc : Thread Cert.AttInRefIdeal.nD Cert.AttInRefIdeal.τ).loc Cert.AttInRefIdeal.main_arg1))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hRecOut : Cert.RecOut.Facts) (hRecOutIdeal : Cert.RecOutIdeal.Facts) (hRecOutRefIdeal : Cert.RecOutRefIdeal.Facts) (hAttOut : Cert.AttOut.Facts) (hAttOutIdeal : Cert.AttOutIdeal.Facts) (hAttOutRefIdeal : Cert.AttOutRefIdeal.Facts) (hRecIn : Cert.RecIn.Facts) (hRecInIdeal : Cert.RecInIdeal.Facts) (hRecInRefIdeal : Cert.RecInRefIdeal.Facts) (hAttIn : Cert.AttIn.Facts) (hAttInIdeal : Cert.AttInIdeal.Facts) (hAttInRefIdeal : Cert.AttInRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_RecOut (hRecOut := hRecOut)
    ∧ quiescent_RecOutIdeal (hRecOutIdeal := hRecOutIdeal)
    ∧ quiescent_RecOutRefIdeal (hRecOutRefIdeal := hRecOutRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_RecIn (hRecIn := hRecIn)
    ∧ quiescent_RecInIdeal (hRecInIdeal := hRecInIdeal)
    ∧ quiescent_RecInRefIdeal (hRecInRefIdeal := hRecInRefIdeal)
    ∧ quiescent_AttIn (hAttIn := hAttIn)
    ∧ quiescent_AttInIdeal (hAttInIdeal := hAttInIdeal)
    ∧ quiescent_AttInIdeal_pre_finite (hAttInIdeal := hAttInIdeal) (hPre_finite := hPre_finite)
    ∧ quiescent_AttInRefIdeal (hAttInRefIdeal := hAttInRefIdeal)
    ∧ quiescent_AttInRefIdeal_pre_finite (hAttInRefIdeal := hAttInRefIdeal) (hPre_finite := hPre_finite)
    ∧ preserves_Kernel_KernelIdeal
    ∧ algebraic_KernelIdeal_ReferenceIdeal (hKernelIdeal := hKernelIdeal) (hReferenceIdeal := hReferenceIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_RecOut_RecOutIdeal
    ∧ algebraic_RecOutIdeal_RecOutRefIdeal (hRecOutIdeal := hRecOutIdeal) (hRecOutRefIdeal := hRecOutRefIdeal)
    ∧ preserves_AttOut_AttOutIdeal
    ∧ algebraic_AttOutIdeal_AttOutRefIdeal (hAttOutIdeal := hAttOutIdeal) (hAttOutRefIdeal := hAttOutRefIdeal)
    ∧ preserves_RecIn_RecInIdeal
    ∧ algebraic_RecInIdeal_RecInRefIdeal (hRecInIdeal := hRecInIdeal) (hRecInRefIdeal := hRecInRefIdeal)
    ∧ preserves_AttIn_AttInIdeal
    ∧ algebraic_AttInIdeal_AttInRefIdeal_pre_finite (hAttInIdeal := hAttInIdeal) (hAttInRefIdeal := hAttInRefIdeal) (hPre_finite := hPre_finite)
-- ==== Pre_finite.lean ====
abbrev S4x4112x2048 : Shape := ⟨3, ![4, 4112, 2048]⟩
abbrev S2x2048x2336 : Shape := ⟨3, ![2, 2048, 2336]⟩
abbrev S16448x2048 : Shape := ⟨2, ![16448, 2048]⟩
abbrev S1x2048x16 : Shape := ⟨3, ![1, 2048, 16]⟩
abbrev S2048x16 : Shape := ⟨2, ![2048, 16]⟩
abbrev S16x2048 : Shape := ⟨2, ![16, 2048]⟩
abbrev S16464x2048 : Shape := ⟨2, ![16464, 2048]⟩
abbrev S_ : Shape := ⟨0, ![]⟩

class Facts : Prop where
  bitsLt_bf16_f32 : FTy.bits .bf16 < FTy.bits .f32
  shapeCasts_S4x4112x2048_S16448x2048 : S4x4112x2048.ShapeCasts S16448x2048
  slices_S2x2048x2336_S1x2048x16_0_0_2320 : S2x2048x2336.Slices ![0, 0, 2320] S1x2048x16
  shapeCasts_S1x2048x16_S2048x16 : S1x2048x16.ShapeCasts S2048x16
  transposes_S2048x16_S16x2048_1_0 : S2048x16.Transposes [1, 0] S16x2048
  concatenates_S16448x2048_S16x2048_S16464x2048_d0 : Shape.Concatenates [S16448x2048, S16x2048] S16464x2048 0
  bcast_S_S16464x2048 : S_.BroadcastsInDim S16464x2048 (![] : Fin 0 → Fin S16464x2048.rank)

variable [Facts]

def fn {F : FTy → Type} [FloatOps F] (main_arg0 : FVec F S4x4112x2048 .bf16) (main_arg1 : FVec F S2x2048x2336 .f32) : IVec S16464x2048 1 :=
  let main_v0 : FVec F S4x4112x2048 .f32 := (extf .f32 · bitsLt_bf16_f32) main_arg0
  let main_v1 : FVec F S16448x2048 .f32 := shapeCast S16448x2048 main_v0 shapeCasts_S4x4112x2048_S16448x2048
  let main_v2 : FVec F S1x2048x16 .f32 := (extractStridedSlice S1x2048x16 ![0, 0, 2320] · slices_S2x2048x2336_S1x2048x16_0_0_2320) main_arg1
  let main_v3 : FVec F S2048x16 .f32 := shapeCast S2048x16 main_v2 shapeCasts_S1x2048x16_S2048x16
  let main_v4 : FVec F S16x2048 .f32 := (transpose S16x2048 [1, 0] · transposes_S2048x16_S16x2048_1_0) main_v3
  let main_v5 : FVec F S16464x2048 .f32 := (fun a b => concatenate S16464x2048 0 [⟨S16448x2048, a⟩, ⟨S16x2048, b⟩] concatenates_S16448x2048_S16x2048_S16464x2048_d0) main_v1 main_v4
  let main_v6 : FVec F S16464x2048 .f32 := Host.absf main_v5
  let main_cst : FVec F S_ .f32 := constant S_ .f32 0x7F800000#32
  let main_v7 : FVec F S16464x2048 .f32 := broadcastInDim S16464x2048 ![] bcast_S_S16464x2048 main_cst
  let main_v8 : IVec S16464x2048 1 := cmpf .olt main_v6 main_v7
  main_v8
-- ==== Kernel.lean ====
abbrev S4x4112x5632 : Shape := ⟨3, ![4, 4112, 5632]⟩
abbrev S4x4112x2048 : Shape := ⟨3, ![4, 4112, 2048]⟩
abbrev S4x5632x2048 : Shape := ⟨3, ![4, 5632, 2048]⟩
abbrev S2048 : Shape := ⟨1, ![2048]⟩
abbrev S_ : Shape := ⟨0, ![]⟩
abbrev S4x112x5632 : Shape := ⟨3, ![4, 112, 5632]⟩
abbrev S4x4224x5632 : Shape := ⟨3, ![4, 4224, 5632]⟩
abbrev S16896x5632 : Shape := ⟨2, ![16896, 5632]⟩
abbrev S4x112x2048 : Shape := ⟨3, ![4, 112, 2048]⟩
abbrev S4x4224x2048 : Shape := ⟨3, ![4, 4224, 2048]⟩
abbrev S16896x2048 : Shape := ⟨2, ![16896, 2048]⟩
abbrev S1x2048 : Shape := ⟨2, ![1, 2048]⟩
abbrev S16384x2048 : Shape := ⟨2, ![16384, 2048]⟩
abbrev S256x5632 : Shape := ⟨2, ![256, 5632]⟩
abbrev S1x5632x2048 : Shape := ⟨3, ![1, 5632, 2048]⟩
abbrev S256x2048 : Shape := ⟨2, ![256, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 15
  | .vmem => 8
  | .smem => 0
  | _ => 0

abbrev bufTy : (tb : Table) → Fin (tcTables nBuf tb) → BufTy
  | .hbm, ⟨0, _⟩ => ⟨S4x4112x5632, .bf16⟩
  | .hbm, ⟨1, _⟩ => ⟨S4x4112x2048, .f32⟩
  | .hbm, ⟨2, _⟩ => ⟨S4x5632x2048, .f32⟩
  | .hbm, ⟨3, _⟩ => ⟨S2048, .f32⟩
  | .hbm, ⟨4, _⟩ => ⟨S_, .bf16⟩
  | .hbm, ⟨5, _⟩ => ⟨S4x112x5632, .bf16⟩
  | .hbm, ⟨6, _⟩ => ⟨S4x4224x5632, .bf16⟩
  | .hbm, ⟨7, _⟩ => ⟨S16896x5632, .bf16⟩
  | .hbm, ⟨8, _⟩ => ⟨S4x5632x2048, .bf16⟩
  | .hbm, ⟨9, _⟩ => ⟨S_, .f32⟩
  | .hbm, ⟨10, _⟩ => ⟨S4x112x2048, .f32⟩
  | .hbm, ⟨11, _⟩ => ⟨S4x4224x2048, .f32⟩
  | .hbm, ⟨12, _⟩ => ⟨S16896x2048, .f32⟩
  | .hbm, ⟨13, _⟩ => ⟨S1x2048, .f32⟩
  | .hbm, ⟨14, _⟩ => ⟨S16384x2048, .f32⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S4x4112x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg0 : BitVec 32 := BitVec.ofNat 32 (i 0).val
  let c4224_i32 : BitVec 32 := 4224#32
  let v0 : BitVec 32 := Scalar.muli arg0 c4224_i32
  let c128_i32 : BitVec 32 := 128#32
  let v1 : BitVec 32 := Scalar.addi v0 c128_i32
  let arg1 : BitVec 32 := BitVec.ofNat 32 (i 1).val
  let c256_i32 : BitVec 32 := 256#32
  let v2 : BitVec 32 := Scalar.muli arg1 c256_i32
  let v3 : BitVec 32 := Scalar.addi v1 v2
  v3
def k0_mult2 (i : grid0.Coords) : BitVec 32 :=
  let arg0 : BitVec 32 := BitVec.ofNat 32 (i 0).val
  let c4224_i32 : BitVec 32 := 4224#32
  let v0 : BitVec 32 := Scalar.muli arg0 c4224_i32
  let c128_i32 : BitVec 32 := 128#32
  let v1 : BitVec 32 := Scalar.addi v0 c128_i32
  let arg1 : BitVec 32 := BitVec.ofNat 32 (i 1).val
  let c256_i32 : BitVec 32 := 256#32
  let v2 : BitVec 32 := Scalar.muli arg1 c256_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c4224_i32 : BitVec 32 := 4224#32
  let v0 : BitVec 32 := Scalar.muli arg0 c4224_i32
  let c128_i32 : BitVec 32 := 128#32
  let v1 : BitVec 32 := Scalar.addi v0 c128_i32
  let c256_i32 : BitVec 32 := 256#32
  let v2 : BitVec 32 := Scalar.muli arg1 c256_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4224_i32 : BitVec 32 := 4224#32
  let v0 : BitVec 32 := Scalar.muli arg0 c4224_i32
  let c128_i32 : BitVec 32 := 128#32
  let v1 : BitVec 32 := Scalar.addi v0 c128_i32
  let c256_i32 : BitVec 32 := 256#32
  let v2 : BitVec 32 := Scalar.muli arg1 c256_i32
  let v3 : BitVec 32 := Scalar.addi v1 v2
  let v4 : BitVec 32 := v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x4112x5632 : Shape := ⟨3, ![4, 4112, 5632]⟩
abbrev S4x4112x2048 : Shape := ⟨3, ![4, 4112, 2048]⟩
abbrev S4x5632x2048 : Shape := ⟨3, ![4, 5632, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S4x4112 : Shape := ⟨2, ![4, 4112]⟩
abbrev S4x4112x1 : Shape := ⟨3, ![4, 4112, 1]⟩
abbrev S1x1x2048 : Shape := ⟨3, ![1, 1, 2048]⟩
abbrev S4x4096x2048 : Shape := ⟨3, ![4, 4096, 2048]⟩
abbrev S16384x2048 : Shape := ⟨2, ![16384, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x4112x5632, .bf16⟩
  | .hbm, ⟨1, _⟩ => ⟨S4x4112x2048, .f32⟩
  | .hbm, ⟨2, _⟩ => ⟨S4x5632x2048, .f32⟩
  | .hbm, ⟨3, _⟩ => ⟨S2048, .f32⟩
  | .hbm, ⟨4, _⟩ => ⟨S4x4112x5632, .f32⟩
  | .hbm, ⟨5, _⟩ => ⟨S1x5632x2048, .f32⟩
  | .hbm, ⟨6, _⟩ => ⟨S5632x2048, .f32⟩
  | .hbm, ⟨7, _⟩ => ⟨S4x4112x2048, .f32⟩
  | .hbm, ⟨8, _⟩ => ⟨S4x4112x2048, .f32⟩
  | .hbm, ⟨9, _⟩ => ⟨S4x4112x2048, .f32⟩
  | .hbm, ⟨10, _⟩ => ⟨S_, .f32⟩
  | .hbm, ⟨11, _⟩ => ⟨S4x4112, .f32⟩
  | .hbm, ⟨12, _⟩ => ⟨S4x4112x1, .f32⟩
  | .hbm, ⟨13, _⟩ => ⟨S_, .f32⟩
  | .hbm, ⟨14, _⟩ => ⟨S4x4112x1, .f32⟩
  | .hbm, ⟨15, _⟩ => ⟨S4x4112x1, .f32⟩
  | .hbm, ⟨16, _⟩ => ⟨S_, .f32⟩
  | .hbm, ⟨17, _⟩ => ⟨S4x4112x1, .f32⟩
  | .hbm, ⟨18, _⟩ => ⟨S4x4112x1, .f32⟩
  | .hbm, ⟨19, _⟩ => ⟨S4x4112x1, .f32⟩
  | .hbm, ⟨20, _⟩ => ⟨S4x4112x2048, .f32⟩
  | .hbm, ⟨21, _⟩ => ⟨S4x4112x2048, .f32⟩
  | .hbm, ⟨22, _⟩ => ⟨S1x1x2048, .f32⟩
  | .hbm, ⟨23, _⟩ => ⟨S4x4112x2048, .f32⟩
  | .hbm, ⟨24, _⟩ => ⟨S4x4112x2048, .f32⟩
  | .hbm, ⟨25, _⟩ => ⟨S4x4096x2048, .f32⟩
  | .hbm, ⟨26, _⟩ => ⟨S16384x2048, .f32⟩
  | _, _ => ⟨S4x4112x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== FfnUp.lean ====
abbrev S4x4112x2048 : Shape := ⟨3, ![4, 4112, 2048]⟩
abbrev S4x2048x5632 : Shape := ⟨3, ![4, 2048, 5632]⟩
abbrev S4x3x5632 : Shape := ⟨3, ![4, 3, 5632]⟩
abbrev S4x5632 : Shape := ⟨2, ![4, 5632]⟩
abbrev S_ : Shape := ⟨0, ![]⟩
abbrev S4x112x2048 : Shape := ⟨3, ![4, 112, 2048]⟩
abbrev S4x4224x2048 : Shape := ⟨3, ![4, 4224, 2048]⟩
abbrev S16896x2048 : Shape := ⟨2, ![16896, 2048]⟩
abbrev S4x1x5632 : Shape := ⟨3, ![4, 1, 5632]⟩
abbrev S16896x5632 : Shape := ⟨2, ![16896, 5632]⟩
abbrev S1408x2048 : Shape := ⟨2, ![1408, 2048]⟩
abbrev S16x2048 : Shape := ⟨2, ![16, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1408x512 : Shape := ⟨2, ![1408, 512]⟩
abbrev S1424x2048 : Shape := ⟨2, ![1424, 2048]⟩
abbrev S1424x512 : Shape := ⟨2, ![1424, 512]⟩
abbrev S2048x512 : Shape := ⟨2, ![2048, 512]⟩
abbrev S3x512 : Shape := ⟨2, ![3, 512]⟩
abbrev S1x512 : Shape := ⟨2, ![1, 512]⟩

abbrev nBuf : Space → Nat
  | .hbm => 11
  | .vmem => 16
  | .smem => 0
  | _ => 0

abbrev bufTy : (tb : Table) → Fin (tcTables nBuf tb) → BufTy
  | .hbm, ⟨0, _⟩ => ⟨S4x4112x2048, .bf16⟩
  | .hbm, ⟨1, _⟩ => ⟨S4x2048x5632, .f32⟩
  | .hbm, ⟨2, _⟩ => ⟨S4x2048x5632, .f32⟩
  | .hbm, ⟨3, _⟩ => ⟨S4x3x5632, .f32⟩
  | .hbm, ⟨4, _⟩ => ⟨S4x5632, .f32⟩
  | .hbm, ⟨5, _⟩ => ⟨S_, .bf16⟩
  | .hbm, ⟨6, _⟩ => ⟨S4x112x2048, .bf16⟩
  | .hbm, ⟨7, _⟩ => ⟨S4x4224x2048, .bf16⟩
  | .hbm, ⟨8, _⟩ => ⟨S16896x2048, .bf16⟩
  | .hbm, ⟨9, _⟩ => ⟨S4x1x5632, .f32⟩
  | .hbm, ⟨10, _⟩ => ⟨S16896x5632, .bf16⟩
  | .local _ .vmem, ⟨0, _⟩ => ⟨S1408x2048, .bf16⟩
  | .local _ .vmem, ⟨1, _⟩ => ⟨S1408x2048, .bf16⟩
  | .local _ .vmem, ⟨2, _⟩ => ⟨S16x2048, .bf16⟩
  | .local _ .vmem, ⟨3, _⟩ => ⟨S16x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x3x512, .f32⟩
  | .local _ .vmem, ⟨9, _⟩ => ⟨S1x3x512, .f32⟩
  | .local _ .vmem, ⟨10, _⟩ => ⟨S1x1x512, .f32⟩
  | .local _ .vmem, ⟨11, _⟩ => ⟨S1x1x512, .f32⟩
  | .local _ .vmem, ⟨12, _⟩ => ⟨S1408x512, .bf16⟩
  | .local _ .vmem, ⟨13, _⟩ => ⟨S1408x512, .bf16⟩
  | .local _ .vmem, ⟨14, _⟩ => ⟨S1424x2048, .bf16⟩
  | .local _ .vmem, ⟨15, _⟩ => ⟨S1424x512, .f32⟩
  | _, _ => ⟨S4x4112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c88_i32 : BitVec 32 := 88#32
  let v0 : BitVec 32 := Scalar.muli arg0 c88_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnUpRefIdeal.lean ====
abbrev S4x4112x2048 : Shape := ⟨3, ![4, 4112, 2048]⟩
abbrev S4x2048x5632 : Shape := ⟨3, ![4, 2048, 5632]⟩
abbrev S4x3x5632 : Shape := ⟨3, ![4, 3, 5632]⟩
abbrev S4x5632 : Shape := ⟨2, ![4, 5632]⟩
abbrev S1x2048x5632 : Shape := ⟨3, ![1, 2048, 5632]⟩
abbrev S2048x5632 : Shape := ⟨2, ![2048, 5632]⟩
abbrev S4x4112x5632 : Shape := ⟨3, ![4, 4112, 5632]⟩
abbrev S_ : Shape := ⟨0, ![]⟩
abbrev S4x4114x5632 : Shape := ⟨3, ![4, 4114, 5632]⟩
abbrev S1x1x5632 : Shape := ⟨3, ![1, 1, 5632]⟩
abbrev S5632 : Shape := ⟨1, ![5632]⟩
abbrev S1x5632 : Shape := ⟨2, ![1, 5632]⟩
abbrev S4x4224x5632 : Shape := ⟨3, ![4, 4224, 5632]⟩
abbrev S16896x5632 : Shape := ⟨2, ![16896, 5632]⟩

abbrev nBuf : Space → Nat
  | .hbm => 58
  | .vmem => 0
  | .smem => 0
  | _ => 0

abbrev bufTy : (tb : Table) → Fin (tcTables nBuf tb) → BufTy
  | .hbm, ⟨0, _⟩ => ⟨S4x4112x2048, .bf16⟩
  | .hbm, ⟨1, _⟩ => ⟨S4x2048x5632, .f32⟩
  | .hbm, ⟨2, _⟩ => ⟨S4x2048x5632, .f32⟩
  | .hbm, ⟨3, _⟩ => ⟨S4x3x5632, .f32⟩
  | .hbm, ⟨4, _⟩ => ⟨S4x5632, .f32⟩
  | .hbm, ⟨5, _⟩ => ⟨S4x4112x2048, .f32⟩
  | .hbm, ⟨6, _⟩ => ⟨S1x2048x5632, .f32⟩
  | .hbm, ⟨7, _⟩ => ⟨S2048x5632, .f32⟩
  | .hbm, ⟨8, _⟩ => ⟨S4x4112x5632, .f32⟩
  | .hbm, ⟨9, _⟩ => ⟨S1x2048x5632, .f32⟩
  | .hbm, ⟨10, _⟩ => ⟨S2048x5632, .f32⟩
  | .hbm, ⟨11, _⟩ => ⟨S4x4112x5632, .f32⟩
  | .hbm, ⟨12, _⟩ => ⟨S_, .i32⟩
  | .hbm, ⟨13, _⟩ => ⟨S_, .f32⟩
  | .hbm, ⟨14, _⟩ => ⟨S4x4114x5632, .f32⟩
  | .hbm, ⟨15, _⟩ => ⟨S4x4112x5632, .f32⟩
  | .hbm, ⟨16, _⟩ => ⟨S1x1x5632, .f32⟩
  | .hbm, ⟨17, _⟩ => ⟨S5632, .f32⟩
  | .hbm, ⟨18, _⟩ => ⟨S1x1x5632, .f32⟩
  | .hbm, ⟨19, _⟩ => ⟨S4x4112x5632, .f32⟩
  | .hbm, ⟨20, _⟩ => ⟨S4x4112x5632, .f32⟩
  | .hbm, ⟨21, _⟩ => ⟨S_, .f32⟩
  | .hbm, ⟨22, _⟩ => ⟨S4x4112x5632, .f32⟩
  | .hbm, ⟨23, _⟩ => ⟨S4x4112x5632, .f32⟩
  | .hbm, ⟨24, _⟩ => ⟨S4x4112x5632, .f32⟩
  | .hbm, ⟨25, _⟩ => ⟨S1x1x5632, .f32⟩
  | .hbm, ⟨26, _⟩ => ⟨S5632, .f32⟩
  | .hbm, ⟨27, _⟩ => ⟨S1x1x5632, .f32⟩
  | .hbm, ⟨28, _⟩ => ⟨S4x4112x5632, .f32⟩
  | .hbm, ⟨29, _⟩ => ⟨S4x4112x5632, .f32⟩
  | .hbm, ⟨30, _⟩ => ⟨S4x4112x5632, .f32⟩
  | .hbm, ⟨31, _⟩ => ⟨S4x4112x5632, .f32⟩
  | .hbm, ⟨32, _⟩ => ⟨S1x1x5632, .f32⟩
  | .hbm, ⟨33, _⟩ => ⟨S5632, .f32⟩
  | .hbm, ⟨34, _⟩ => ⟨S1x1x5632, .f32⟩
  | .hbm, ⟨35, _⟩ => ⟨S4x4112x5632, .f32⟩
  | .hbm, ⟨36, _⟩ => ⟨S4x4112x5632, .f32⟩
  | .hbm, ⟨37, _⟩ => ⟨S4x4112x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S4x4112x5632, .f32⟩
  | .hbm, ⟨42, _⟩ => ⟨S4x4112x5632, .f32⟩
  | .hbm, ⟨43, _⟩ => ⟨S4x4112x5632, .f32⟩
  | .hbm, ⟨44, _⟩ => ⟨S4x4112x5632, .f32⟩
  | .hbm, ⟨45, _⟩ => ⟨S_, .f32⟩
  | .hbm, ⟨46, _⟩ => ⟨S4x4112x5632, .f32⟩
  | .hbm, ⟨47, _⟩ => ⟨S4x4112x5632, .f32⟩
  | .hbm, ⟨48, _⟩ => ⟨S_, .f32⟩
  | .hbm, ⟨49, _⟩ => ⟨S4x4112x5632, .f32⟩
  | .hbm, ⟨50, _⟩ => ⟨S4x4112x5632, .f32⟩
  | .hbm, ⟨51, _⟩ => ⟨S4x4112x5632, .f32⟩
  | .hbm, ⟨52, _⟩ => ⟨S4x4112x5632, .f32⟩
  | .hbm, ⟨53, _⟩ => ⟨S4x4112x5632, .bf16⟩
  | .hbm, ⟨54, _⟩ => ⟨S_, .i32⟩
  | .hbm, ⟨55, _⟩ => ⟨S_, .bf16⟩
  | .hbm, ⟨56, _⟩ => ⟨S4x4224x5632, .bf16⟩
  | .hbm, ⟨57, _⟩ => ⟨S16896x5632, .bf16⟩
  | _, _ => ⟨S4x4112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_0 : Ref sig .tc := ⟨.hbm, 54, rfl⟩
abbrev main_call2_v0 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== FfnDown.lean ====
abbrev S4x4112x5632 : Shape := ⟨3, ![4, 4112, 5632]⟩
abbrev S4x4112x2048 : Shape := ⟨3, ![4, 4112, 2048]⟩
abbrev S4x5632x2048 : Shape := ⟨3, ![4, 5632, 2048]⟩
abbrev S4x2048 : Shape := ⟨2, ![4, 2048]⟩
abbrev S_ : Shape := ⟨0, ![]⟩
abbrev S4x112x5632 : Shape := ⟨3, ![4, 112, 5632]⟩
abbrev S4x4224x5632 : Shape := ⟨3, ![4, 4224, 5632]⟩
abbrev S16896x5632 : Shape := ⟨2, ![16896, 5632]⟩
abbrev S4x112x2048 : Shape := ⟨3, ![4, 112, 2048]⟩
abbrev S4x4224x2048 : Shape := ⟨3, ![4, 4224, 2048]⟩
abbrev S16896x2048 : Shape := ⟨2, ![16896, 2048]⟩
abbrev S1x2048 : Shape := ⟨2, ![1, 2048]⟩
abbrev S2048 : Shape := ⟨1, ![2048]⟩
abbrev S384x5632 : Shape := ⟨2, ![384, 5632]⟩
abbrev S1x5632x2048 : Shape := ⟨3, ![1, 5632, 2048]⟩
abbrev S384x2048 : Shape := ⟨2, ![384, 2048]⟩
abbrev S5632x2048 : Shape := ⟨2, ![5632, 2048]⟩
abbrev S384 : Shape := ⟨1, ![384]⟩
abbrev S384x1 : Shape := ⟨2, ![384, 1]⟩

abbrev nBuf : Space → Nat
  | .hbm => 18
  | .vmem => 10
  | .smem => 0
  | _ => 0

abbrev bufTy : (tb : Table) → Fin (tcTables nBuf tb) → BufTy
  | .hbm, ⟨0, _⟩ => ⟨S4x4112x5632, .bf16⟩
  | .hbm, ⟨1, _⟩ => ⟨S4x4112x2048, .f32⟩
  | .hbm, ⟨2, _⟩ => ⟨S4x5632x2048, .f32⟩
  | .hbm, ⟨3, _⟩ => ⟨S4x2048, .f32⟩
  | .hbm, ⟨4, _⟩ => ⟨S_, .bf16⟩
  | .hbm, ⟨5, _⟩ => ⟨S4x112x5632, .bf16⟩
  | .hbm, ⟨6, _⟩ => ⟨S4x4224x5632, .bf16⟩
  | .hbm, ⟨7, _⟩ => ⟨S16896x5632, .bf16⟩
  | .hbm, ⟨8, _⟩ => ⟨S4x5632x2048, .bf16⟩
  | .hbm, ⟨9, _⟩ => ⟨S_, .f32⟩
  | .hbm, ⟨10, _⟩ => ⟨S4x112x2048, .f32⟩
  | .hbm, ⟨11, _⟩ => ⟨S4x4224x2048, .f32⟩
  | .hbm, ⟨12, _⟩ => ⟨S16896x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S16896x2048, .f32⟩
  | .hbm, ⟨17, _⟩ => ⟨S16896x2048, .bf16⟩
  | .local _ .vmem, ⟨0, _⟩ => ⟨S384x5632, .bf16⟩
  | .local _ .vmem, ⟨1, _⟩ => ⟨S384x5632, .bf16⟩
  | .local _ .vmem, ⟨2, _⟩ => ⟨S1x5632x2048, .bf16⟩
  | .local _ .vmem, ⟨3, _⟩ => ⟨S384x2048, .f32⟩
  | .local _ .vmem, ⟨4, _⟩ => ⟨S384x2048, .f32⟩
  | .local _ .vmem, ⟨5, _⟩ => ⟨S1x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .bf16⟩
  | .local _ .vmem, ⟨9, _⟩ => ⟨S384x2048, .bf16⟩
  | _, _ => ⟨S4x4112x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownRefIdeal.lean ====
abbrev S4x4112x5632 : Shape := ⟨3, ![4, 4112, 5632]⟩
abbrev S4x4112x2048 : Shape := ⟨3, ![4, 4112, 2048]⟩
abbrev S4x5632x2048 : Shape := ⟨3, ![4, 5632, 2048]⟩
abbrev S4x2048 : Shape := ⟨2, ![4, 2048]⟩
abbrev S1x5632x2048 : Shape := ⟨3, ![1, 5632, 2048]⟩
abbrev S5632x2048 : Shape := ⟨2, ![5632, 2048]⟩
abbrev S_ : Shape := ⟨0, ![]⟩
abbrev S4x4224x2048 : Shape := ⟨3, ![4, 4224, 2048]⟩
abbrev S16896x2048 : Shape := ⟨2, ![16896, 2048]⟩
abbrev S1x2048 : Shape := ⟨2, ![1, 2048]⟩
abbrev S2048 : Shape := ⟨1, ![2048]⟩
abbrev S4x4112 : Shape := ⟨2, ![4, 4112]⟩
abbrev S4x4112x1 : Shape := ⟨3, ![4, 4112, 1]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x4112x5632, .bf16⟩
  | .hbm, ⟨1, _⟩ => ⟨S4x4112x2048, .f32⟩
  | .hbm, ⟨2, _⟩ => ⟨S4x5632x2048, .f32⟩
  | .hbm, ⟨3, _⟩ => ⟨S4x2048, .f32⟩
  | .hbm, ⟨4, _⟩ => ⟨S4x4112x5632, .f32⟩
  | .hbm, ⟨5, _⟩ => ⟨S1x5632x2048, .f32⟩
  | .hbm, ⟨6, _⟩ => ⟨S5632x2048, .f32⟩
  | .hbm, ⟨7, _⟩ => ⟨S4x4112x2048, .f32⟩
  | .hbm, ⟨8, _⟩ => ⟨S4x4112x2048, .f32⟩
  | .hbm, ⟨9, _⟩ => ⟨S_, .i32⟩
  | .hbm, ⟨10, _⟩ => ⟨S_, .f32⟩
  | .hbm, ⟨11, _⟩ => ⟨S4x4224x2048, .f32⟩
  | .hbm, ⟨12, _⟩ => ⟨S16896x2048, .f32⟩
  | .hbm, ⟨13, _⟩ => ⟨S1x2048, .f32⟩
  | .hbm, ⟨14, _⟩ => ⟨S2048, .f32⟩
  | .hbm, ⟨15, _⟩ => ⟨S4x4112x2048, .f32⟩
  | .hbm, ⟨16, _⟩ => ⟨S_, .f32⟩
  | .hbm, ⟨17, _⟩ => ⟨S4x4112, .f32⟩
  | .hbm, ⟨18, _⟩ => ⟨S4x4112x1, .f32⟩
  | .hbm, ⟨19, _⟩ => ⟨S_, .f32⟩
  | .hbm, ⟨20, _⟩ => ⟨S4x4112x1, .f32⟩
  | .hbm, ⟨21, _⟩ => ⟨S4x4112x1, .f32⟩
  | .hbm, ⟨22, _⟩ => ⟨S_, .f32⟩
  | .hbm, ⟨23, _⟩ => ⟨S4x4112x1, .f32⟩
  | .hbm, ⟨24, _⟩ => ⟨S4x4112x1, .f32⟩
  | .hbm, ⟨25, _⟩ => ⟨S4x4112x1, .f32⟩
  | .hbm, ⟨26, _⟩ => ⟨S4x4112x2048, .f32⟩
  | .hbm, ⟨27, _⟩ => ⟨S4x4112x2048, .f32⟩
  | .hbm, ⟨28, _⟩ => ⟨S1x1x2048, .f32⟩
  | .hbm, ⟨29, _⟩ => ⟨S4x4112x2048, .f32⟩
  | .hbm, ⟨30, _⟩ => ⟨S4x4112x2048, .f32⟩
  | .hbm, ⟨31, _⟩ => ⟨S4x4112x2048, .bf16⟩
  | .hbm, ⟨32, _⟩ => ⟨S_, .i32⟩
  | .hbm, ⟨33, _⟩ => ⟨S_, .bf16⟩
  | .hbm, ⟨34, _⟩ => ⟨S4x4224x2048, .bf16⟩
  | .hbm, ⟨35, _⟩ => ⟨S16896x2048, .bf16⟩
  | _, _ => ⟨S4x4112x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== RecOut.lean ====
abbrev S4x4112x2048 : Shape := ⟨3, ![4, 4112, 2048]⟩
abbrev S2x2048x2048 : Shape := ⟨3, ![2, 2048, 2048]⟩
abbrev S4x2048 : Shape := ⟨2, ![4, 2048]⟩
abbrev S_ : Shape := ⟨0, ![]⟩
abbrev S4x112x2048 : Shape := ⟨3, ![4, 112, 2048]⟩
abbrev S4x4224x2048 : Shape := ⟨3, ![4, 4224, 2048]⟩
abbrev S16896x2048 : Shape := ⟨2, ![16896, 2048]⟩
abbrev S1x2048 : Shape := ⟨2, ![1, 2048]⟩
abbrev S2048 : Shape := ⟨1, ![2048]⟩
abbrev S384x2048 : Shape := ⟨2, ![384, 2048]⟩
abbrev S1x2048x2048 : Shape := ⟨3, ![1, 2048, 2048]⟩
abbrev S2048x2048 : Shape := ⟨2, ![2048, 2048]⟩
abbrev S384 : Shape := ⟨1, ![384]⟩
abbrev S384x1 : Shape := ⟨2, ![384, 1]⟩

abbrev nBuf : Space → Nat
  | .hbm => 18
  | .vmem => 10
  | .smem => 0
  | _ => 0

abbrev bufTy : (tb : Table) → Fin (tcTables nBuf tb) → BufTy
  | .hbm, ⟨0, _⟩ => ⟨S4x4112x2048, .bf16⟩
  | .hbm, ⟨1, _⟩ => ⟨S4x4112x2048, .f32⟩
  | .hbm, ⟨2, _⟩ => ⟨S2x2048x2048, .f32⟩
  | .hbm, ⟨3, _⟩ => ⟨S4x2048, .f32⟩
  | .hbm, ⟨4, _⟩ => ⟨S_, .bf16⟩
  | .hbm, ⟨5, _⟩ => ⟨S4x112x2048, .bf16⟩
  | .hbm, ⟨6, _⟩ => ⟨S4x4224x2048, .bf16⟩
  | .hbm, ⟨7, _⟩ => ⟨S16896x2048, .bf16⟩
  | .hbm, ⟨8, _⟩ => ⟨S2x2048x2048, .bf16⟩
  | .hbm, ⟨9, _⟩ => ⟨S_, .f32⟩
  | .hbm, ⟨10, _⟩ => ⟨S4x112x2048, .f32⟩
  | .hbm, ⟨11, _⟩ => ⟨S4x4224x2048, .f32⟩
  | .hbm, ⟨12, _⟩ => ⟨S16896x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S16896x2048, .f32⟩
  | .hbm, ⟨17, _⟩ => ⟨S16896x2048, .bf16⟩
  | .local _ .vmem, ⟨0, _⟩ => ⟨S384x2048, .bf16⟩
  | .local _ .vmem, ⟨1, _⟩ => ⟨S384x2048, .bf16⟩
  | .local _ .vmem, ⟨2, _⟩ => ⟨S1x2048x2048, .bf16⟩
  | .local _ .vmem, ⟨3, _⟩ => ⟨S384x2048, .f32⟩
  | .local _ .vmem, ⟨4, _⟩ => ⟨S384x2048, .f32⟩
  | .local _ .vmem, ⟨5, _⟩ => ⟨S1x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .bf16⟩
  | .local _ .vmem, ⟨9, _⟩ => ⟨S384x2048, .bf16⟩
  | _, _ => ⟨S4x4112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RecOutRefIdeal.lean ====
abbrev S4x4112x2048 : Shape := ⟨3, ![4, 4112, 2048]⟩
abbrev S2x2048x2048 : Shape := ⟨3, ![2, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S_ : Shape := ⟨0, ![]⟩
abbrev S4x4224x2048 : Shape := ⟨3, ![4, 4224, 2048]⟩
abbrev S16896x2048 : Shape := ⟨2, ![16896, 2048]⟩
abbrev S1x2048 : Shape := ⟨2, ![1, 2048]⟩
abbrev S2048 : Shape := ⟨1, ![2048]⟩
abbrev S4x4112 : Shape := ⟨2, ![4, 4112]⟩
abbrev S4x4112x1 : Shape := ⟨3, ![4, 4112, 1]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S4x4112x2048, .bf16⟩
  | .hbm, ⟨1, _⟩ => ⟨S4x4112x2048, .f32⟩
  | .hbm, ⟨2, _⟩ => ⟨S2x2048x2048, .f32⟩
  | .hbm, ⟨3, _⟩ => ⟨S4x2048, .f32⟩
  | .hbm, ⟨4, _⟩ => ⟨S4x4112x2048, .f32⟩
  | .hbm, ⟨5, _⟩ => ⟨S1x2048x2048, .f32⟩
  | .hbm, ⟨6, _⟩ => ⟨S2048x2048, .f32⟩
  | .hbm, ⟨7, _⟩ => ⟨S4x4112x2048, .f32⟩
  | .hbm, ⟨8, _⟩ => ⟨S4x4112x2048, .f32⟩
  | .hbm, ⟨9, _⟩ => ⟨S_, .i32⟩
  | .hbm, ⟨10, _⟩ => ⟨S_, .f32⟩
  | .hbm, ⟨11, _⟩ => ⟨S4x4224x2048, .f32⟩
  | .hbm, ⟨12, _⟩ => ⟨S16896x2048, .f32⟩
  | .hbm, ⟨13, _⟩ => ⟨S1x2048, .f32⟩
  | .hbm, ⟨14, _⟩ => ⟨S2048, .f32⟩
  | .hbm, ⟨15, _⟩ => ⟨S4x4112x2048, .f32⟩
  | .hbm, ⟨16, _⟩ => ⟨S_, .f32⟩
  | .hbm, ⟨17, _⟩ => ⟨S4x4112, .f32⟩
  | .hbm, ⟨18, _⟩ => ⟨S4x4112x1, .f32⟩
  | .hbm, ⟨19, _⟩ => ⟨S_, .f32⟩
  | .hbm, ⟨20, _⟩ => ⟨S4x4112x1, .f32⟩
  | .hbm, ⟨21, _⟩ => ⟨S4x4112x1, .f32⟩
  | .hbm, ⟨22, _⟩ => ⟨S_, .f32⟩
  | .hbm, ⟨23, _⟩ => ⟨S4x4112x1, .f32⟩
  | .hbm, ⟨24, _⟩ => ⟨S4x4112x1, .f32⟩
  | .hbm, ⟨25, _⟩ => ⟨S4x4112x1, .f32⟩
  | .hbm, ⟨26, _⟩ => ⟨S4x4112x2048, .f32⟩
  | .hbm, ⟨27, _⟩ => ⟨S4x4112x2048, .f32⟩
  | .hbm, ⟨28, _⟩ => ⟨S1x1x2048, .f32⟩
  | .hbm, ⟨29, _⟩ => ⟨S4x4112x2048, .f32⟩
  | .hbm, ⟨30, _⟩ => ⟨S4x4112x2048, .f32⟩
  | .hbm, ⟨31, _⟩ => ⟨S4x4112x2048, .bf16⟩
  | .hbm, ⟨32, _⟩ => ⟨S_, .i32⟩
  | .hbm, ⟨33, _⟩ => ⟨S_, .bf16⟩
  | .hbm, ⟨34, _⟩ => ⟨S4x4224x2048, .bf16⟩
  | .hbm, ⟨35, _⟩ => ⟨S16896x2048, .bf16⟩
  | _, _ => ⟨S4x4112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_call1_v0 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== AttOut.lean ====
abbrev S4x4112x1024 : Shape := ⟨3, ![4, 4112, 1024]⟩
abbrev S4x4112x2048 : Shape := ⟨3, ![4, 4112, 2048]⟩
abbrev S2x2048x2048 : Shape := ⟨3, ![2, 2048, 2048]⟩
abbrev S4x2048 : Shape := ⟨2, ![4, 2048]⟩
abbrev S_ : Shape := ⟨0, ![]⟩
abbrev S4x112x1024 : Shape := ⟨3, ![4, 112, 1024]⟩
abbrev S4x4224x1024 : Shape := ⟨3, ![4, 4224, 1024]⟩
abbrev S16896x1024 : Shape := ⟨2, ![16896, 1024]⟩
abbrev S4x112x2048 : Shape := ⟨3, ![4, 112, 2048]⟩
abbrev S4x4224x2048 : Shape := ⟨3, ![4, 4224, 2048]⟩
abbrev S16896x2048 : Shape := ⟨2, ![16896, 2048]⟩
abbrev S1x2048 : Shape := ⟨2, ![1, 2048]⟩
abbrev S2048 : Shape := ⟨1, ![2048]⟩
abbrev S384x1024 : Shape := ⟨2, ![384, 1024]⟩
abbrev S1x2048x2048 : Shape := ⟨3, ![1, 2048, 2048]⟩
abbrev S384x2048 : Shape := ⟨2, ![384, 2048]⟩
abbrev S1x1024x2048 : Shape := ⟨3, ![1, 1024, 2048]⟩
abbrev S1024x2048 : Shape := ⟨2, ![1024, 2048]⟩
abbrev S384 : Shape := ⟨1, ![384]⟩
abbrev S384x1 : Shape := ⟨2, ![384, 1]⟩

abbrev nBuf : Space → Nat
  | .hbm => 23
  | .vmem => 12
  | .smem => 0
  | _ => 0

abbrev bufTy : (tb : Table) → Fin (tcTables nBuf tb) → BufTy
  | .hbm, ⟨0, _⟩ => ⟨S4x4112x1024, .bf16⟩
  | .hbm, ⟨1, _⟩ => ⟨S4x4112x1024, .bf16⟩
  | .hbm, ⟨2, _⟩ => ⟨S4x4112x2048, .f32⟩
  | .hbm, ⟨3, _⟩ => ⟨S2x2048x2048, .f32⟩
  | .hbm, ⟨4, _⟩ => ⟨S4x2048, .f32⟩
  | .hbm, ⟨5, _⟩ => ⟨S_, .bf16⟩
  | .hbm, ⟨6, _⟩ => ⟨S4x112x1024, .bf16⟩
  | .hbm, ⟨7, _⟩ => ⟨S4x4224x1024, .bf16⟩
  | .hbm, ⟨8, _⟩ => ⟨S16896x1024, .bf16⟩
  | .hbm, ⟨9, _⟩ => ⟨S_, .bf16⟩
  | .hbm, ⟨10, _⟩ => ⟨S4x112x1024, .bf16⟩
  | .hbm, ⟨11, _⟩ => ⟨S4x4224x1024, .bf16⟩
  | .hbm, ⟨12, _⟩ => ⟨S16896x1024, .bf16⟩
  | .hbm, ⟨13, _⟩ => ⟨S2x2048x2048, .bf16⟩
  | .hbm, ⟨14, _⟩ => ⟨S_, .f32⟩
  | .hbm, ⟨15, _⟩ => ⟨S4x112x2048, .f32⟩
  | .hbm, ⟨16, _⟩ => ⟨S4x4224x2048, .f32⟩
  | .hbm, ⟨17, _⟩ => ⟨S16896x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S16896x2048, .f32⟩
  | .hbm, ⟨22, _⟩ => ⟨S16896x2048, .bf16⟩
  | .local _ .vmem, ⟨0, _⟩ => ⟨S384x1024, .bf16⟩
  | .local _ .vmem, ⟨1, _⟩ => ⟨S384x1024, .bf16⟩
  | .local _ .vmem, ⟨2, _⟩ => ⟨S384x1024, .bf16⟩
  | .local _ .vmem, ⟨3, _⟩ => ⟨S384x1024, .bf16⟩
  | .local _ .vmem, ⟨4, _⟩ => ⟨S1x2048x2048, .bf16⟩
  | .local _ .vmem, ⟨5, _⟩ => ⟨S384x2048, .f32⟩
  | .local _ .vmem, ⟨6, _⟩ => ⟨S384x2048, .f32⟩
  | .local _ .vmem, ⟨7, _⟩ => ⟨S1x2048, .f32⟩
  | .local _ .vmem, ⟨8, _⟩ => ⟨S384x2048, .f32⟩
  | .local _ .vmem, ⟨9, _⟩ => ⟨S384x2048, .f32⟩
  | .local _ .vmem, ⟨10, _⟩ => ⟨S384x2048, .bf16⟩
  | .local _ .vmem, ⟨11, _⟩ => ⟨S384x2048, .bf16⟩
  | _, _ => ⟨S4x4112x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttOutRefIdeal.lean ====
abbrev S4x4112x1024 : Shape := ⟨3, ![4, 4112, 1024]⟩
abbrev S4x4112x2048 : Shape := ⟨3, ![4, 4112, 2048]⟩
abbrev S2x2048x2048 : Shape := ⟨3, ![2, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S_ : Shape := ⟨0, ![]⟩
abbrev S4x4224x2048 : Shape := ⟨3, ![4, 4224, 2048]⟩
abbrev S16896x2048 : Shape := ⟨2, ![16896, 2048]⟩
abbrev S1x2048 : Shape := ⟨2, ![1, 2048]⟩
abbrev S2048 : Shape := ⟨1, ![2048]⟩
abbrev S4x4112 : Shape := ⟨2, ![4, 4112]⟩
abbrev S4x4112x1 : Shape := ⟨3, ![4, 4112, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4x4112x1024, .bf16⟩
  | .hbm, ⟨1, _⟩ => ⟨S4x4112x1024, .bf16⟩
  | .hbm, ⟨2, _⟩ => ⟨S4x4112x2048, .f32⟩
  | .hbm, ⟨3, _⟩ => ⟨S2x2048x2048, .f32⟩
  | .hbm, ⟨4, _⟩ => ⟨S4x2048, .f32⟩
  | .hbm, ⟨5, _⟩ => ⟨S4x4112x2048, .bf16⟩
  | .hbm, ⟨6, _⟩ => ⟨S4x4112x2048, .f32⟩
  | .hbm, ⟨7, _⟩ => ⟨S1x2048x2048, .f32⟩
  | .hbm, ⟨8, _⟩ => ⟨S2048x2048, .f32⟩
  | .hbm, ⟨9, _⟩ => ⟨S4x4112x2048, .f32⟩
  | .hbm, ⟨10, _⟩ => ⟨S4x4112x2048, .f32⟩
  | .hbm, ⟨11, _⟩ => ⟨S_, .i32⟩
  | .hbm, ⟨12, _⟩ => ⟨S_, .f32⟩
  | .hbm, ⟨13, _⟩ => ⟨S4x4224x2048, .f32⟩
  | .hbm, ⟨14, _⟩ => ⟨S16896x2048, .f32⟩
  | .hbm, ⟨15, _⟩ => ⟨S1x2048, .f32⟩
  | .hbm, ⟨16, _⟩ => ⟨S2048, .f32⟩
  | .hbm, ⟨17, _⟩ => ⟨S4x4112x2048, .f32⟩
  | .hbm, ⟨18, _⟩ => ⟨S_, .f32⟩
  | .hbm, ⟨19, _⟩ => ⟨S4x4112, .f32⟩
  | .hbm, ⟨20, _⟩ => ⟨S4x4112x1, .f32⟩
  | .hbm, ⟨21, _⟩ => ⟨S_, .f32⟩
  | .hbm, ⟨22, _⟩ => ⟨S4x4112x1, .f32⟩
  | .hbm, ⟨23, _⟩ => ⟨S4x4112x1, .f32⟩
  | .hbm, ⟨24, _⟩ => ⟨S_, .f32⟩
  | .hbm, ⟨25, _⟩ => ⟨S4x4112x1, .f32⟩
  | .hbm, ⟨26, _⟩ => ⟨S4x4112x1, .f32⟩
  | .hbm, ⟨27, _⟩ => ⟨S4x4112x1, .f32⟩
  | .hbm, ⟨28, _⟩ => ⟨S4x4112x2048, .f32⟩
  | .hbm, ⟨29, _⟩ => ⟨S4x4112x2048, .f32⟩
  | .hbm, ⟨30, _⟩ => ⟨S1x1x2048, .f32⟩
  | .hbm, ⟨31, _⟩ => ⟨S4x4112x2048, .f32⟩
  | .hbm, ⟨32, _⟩ => ⟨S4x4112x2048, .f32⟩
  | .hbm, ⟨33, _⟩ => ⟨S4x4112x2048, .bf16⟩
  | .hbm, ⟨34, _⟩ => ⟨S_, .i32⟩
  | .hbm, ⟨35, _⟩ => ⟨S_, .bf16⟩
  | .hbm, ⟨36, _⟩ => ⟨S4x4224x2048, .bf16⟩
  | .hbm, ⟨37, _⟩ => ⟨S16896x2048, .bf16⟩
  | _, _ => ⟨S4x4112x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_call1_v0 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== RecIn.lean ====
abbrev S4x4112x2048 : Shape := ⟨3, ![4, 4112, 2048]⟩
abbrev S2x2048x8192 : Shape := ⟨3, ![2, 2048, 8192]⟩
abbrev S2048 : Shape := ⟨1, ![2048]⟩
abbrev S_ : Shape := ⟨0, ![]⟩
abbrev S4x112x2048 : Shape := ⟨3, ![4, 112, 2048]⟩
abbrev S4x4224x2048 : Shape := ⟨3, ![4, 4224, 2048]⟩
abbrev S16896x2048 : Shape := ⟨2, ![16896, 2048]⟩
abbrev S1x2048 : Shape := ⟨2, ![1, 2048]⟩
abbrev S768x2048 : Shape := ⟨2, ![768, 2048]⟩
abbrev S1x2048x512 : Shape := ⟨3, ![1, 2048, 512]⟩
abbrev S1x512 : Shape := ⟨2, ![1, 512]⟩
abbrev S768x512 : Shape := ⟨2, ![768, 512]⟩
abbrev S2048x512 : Shape := ⟨2, ![2048, 512]⟩

abbrev nBuf : Space → Nat
  | .hbm => 17
  | .vmem => 22
  | .smem => 0
  | _ => 0

abbrev bufTy : (tb : Table) → Fin (tcTables nBuf tb) → BufTy
  | .hbm, ⟨0, _⟩ => ⟨S4x4112x2048, .bf16⟩
  | .hbm, ⟨1, _⟩ => ⟨S2x2048x8192, .f32⟩
  | .hbm, ⟨2, _⟩ => ⟨S2048, .f32⟩
  | .hbm, ⟨3, _⟩ => ⟨S_, .bf16⟩
  | .hbm, ⟨4, _⟩ => ⟨S4x112x2048, .bf16⟩
  | .hbm, ⟨5, _⟩ => ⟨S4x4224x2048, .bf16⟩
  | .hbm, ⟨6, _⟩ => ⟨S16896x2048, .bf16⟩
  | .hbm, ⟨7, _⟩ => ⟨S2x2048x8192, .bf16⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S16896x2048, .bf16⟩
  | .hbm, ⟨14, _⟩ => ⟨S16896x2048, .f32⟩
  | .hbm, ⟨15, _⟩ => ⟨S16896x2048, .bf16⟩
  | .hbm, ⟨16, _⟩ => ⟨S16896x2048, .bf16⟩
  | .local _ .vmem, ⟨0, _⟩ => ⟨S768x2048, .bf16⟩
  | .local _ .vmem, ⟨1, _⟩ => ⟨S768x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S768x512, .bf16⟩
  | .local _ .vmem, ⟨15, _⟩ => ⟨S768x512, .bf16⟩
  | .local _ .vmem, ⟨16, _⟩ => ⟨S768x512, .f32⟩
  | .local _ .vmem, ⟨17, _⟩ => ⟨S768x512, .f32⟩
  | .local _ .vmem, ⟨18, _⟩ => ⟨S768x512, .bf16⟩
  | .local _ .vmem, ⟨19, _⟩ => ⟨S768x512, .bf16⟩
  | .local _ .vmem, ⟨20, _⟩ => ⟨S768x512, .bf16⟩
  | .local _ .vmem, ⟨21, _⟩ => ⟨S768x512, .bf16⟩
  | _, _ => ⟨S4x4112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![22, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S768x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RecInIdeal.lean ====
variable {F : FTy → Type} [FloatOps F] [Named F]
def κ : String → Option EReal := fun
  | "log2e" => some (((Real.log 2)⁻¹ : ℝ) : EReal)
  | _ => none
-- ==== RecInRefIdeal.lean ====
abbrev S4x4112x2048 : Shape := ⟨3, ![4, 4112, 2048]⟩
abbrev S2x2048x8192 : Shape := ⟨3, ![2, 2048, 8192]⟩
abbrev S2048 : Shape := ⟨1, ![2048]⟩
abbrev S_ : Shape := ⟨0, ![]⟩
abbrev S4x4224x2048 : Shape := ⟨3, ![4, 4224, 2048]⟩
abbrev S16896x2048 : Shape := ⟨2, ![16896, 2048]⟩
abbrev S1x2048x8192 : Shape := ⟨3, ![1, 2048, 8192]⟩
abbrev S2048x8192 : Shape := ⟨2, ![2048, 8192]⟩
abbrev S16896x8192 : Shape := ⟨2, ![16896, 8192]⟩
abbrev S1x2048 : Shape := ⟨2, ![1, 2048]⟩

abbrev nBuf : Space → Nat
  | .hbm => 77
  | .vmem => 0
  | .smem => 0
  | _ => 0

abbrev bufTy : (tb : Table) → Fin (tcTables nBuf tb) → BufTy
  | .hbm, ⟨0, _⟩ => ⟨S4x4112x2048, .bf16⟩
  | .hbm, ⟨1, _⟩ => ⟨S2x2048x8192, .f32⟩
  | .hbm, ⟨2, _⟩ => ⟨S2048, .f32⟩
  | .hbm, ⟨3, _⟩ => ⟨S4x4112x2048, .f32⟩
  | .hbm, ⟨4, _⟩ => ⟨S_, .i32⟩
  | .hbm, ⟨5, _⟩ => ⟨S_, .f32⟩
  | .hbm, ⟨6, _⟩ => ⟨S4x4224x2048, .f32⟩
  | .hbm, ⟨7, _⟩ => ⟨S16896x2048, .f32⟩
  | .hbm, ⟨8, _⟩ => ⟨S1x2048x8192, .f32⟩
  | .hbm, ⟨9, _⟩ => ⟨S2048x8192, .f32⟩
  | .hbm, ⟨10, _⟩ => ⟨S16896x8192, .f32⟩
  | .hbm, ⟨11, _⟩ => ⟨S16896x2048, .f32⟩
  | .hbm, ⟨12, _⟩ => ⟨S16896x2048, .f32⟩
  | .hbm, ⟨13, _⟩ => ⟨S16896x2048, .f32⟩
  | .hbm, ⟨14, _⟩ => ⟨S16896x2048, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S16896x2048, .f32⟩
  | .hbm, ⟨19, _⟩ => ⟨S_, .f32⟩
  | .hbm, ⟨20, _⟩ => ⟨S16896x2048, .f32⟩
  | .hbm, ⟨21, _⟩ => ⟨S16896x2048, .f32⟩
  | .hbm, ⟨22, _⟩ => ⟨S16896x2048, .f32⟩
  | .hbm, ⟨23, _⟩ => ⟨S16896x2048, .f32⟩
  | .hbm, ⟨24, _⟩ => ⟨S16896x2048, .i1⟩
  | .hbm, ⟨25, _⟩ => ⟨S16896x2048, .f32⟩
  | .hbm, ⟨26, _⟩ => ⟨S16896x2048, .f32⟩
  | .hbm, ⟨27, _⟩ => ⟨S16896x2048, .f32⟩
  | .hbm, ⟨28, _⟩ => ⟨S16896x2048, .f32⟩
  | .hbm, ⟨29, _⟩ => ⟨S16896x2048, .f32⟩
  | .hbm, ⟨30, _⟩ => ⟨S16896x2048, .f32⟩
  | .hbm, ⟨31, _⟩ => ⟨S16896x2048, .f32⟩
  | .hbm, ⟨32, _⟩ => ⟨S16896x2048, .f32⟩
  | .hbm, ⟨33, _⟩ => ⟨S16896x2048, .f32⟩
  | .hbm, ⟨34, _⟩ => ⟨S1x2048, .f32⟩
  | .hbm, ⟨35, _⟩ => ⟨S16896x2048, .f32⟩
  | .hbm, ⟨36, _⟩ => ⟨S16896x2048, .f32⟩
  | .hbm, ⟨37, _⟩ => ⟨S1x2048, .f32⟩
  | .hbm, ⟨38, _⟩ => ⟨S16896x2048, .f32⟩
  | .hbm, ⟨39, _⟩ => ⟨S16896x2048, .f32⟩
  | .hbm, ⟨40, _⟩ => ⟨S16896x2048, .f32⟩
  | .hbm, ⟨41, _⟩ => ⟨S16896x2048, .f32⟩
  | .hbm, ⟨42, _⟩ => ⟨S16896x2048, .i1⟩
  | .hbm, ⟨43, _⟩ => ⟨S16896x2048, .f32⟩
  | .hbm, ⟨44, _⟩ => ⟨S16896x2048, .f32⟩
  | .hbm, ⟨45, _⟩ => ⟨S16896x2048, .f32⟩
  | .hbm, ⟨46, _⟩ => ⟨S16896x2048, .f32⟩
  | .hbm, ⟨47, _⟩ => ⟨S16896x2048, .f32⟩
  | .hbm, ⟨48, _⟩ => ⟨S16896x2048, .f32⟩
  | .hbm, ⟨49, _⟩ => ⟨S16896x2048, .f32⟩
  | .hbm, ⟨50, _⟩ => ⟨S16896x2048, .f32⟩
  | .hbm, ⟨51, _⟩ => ⟨S16896x2048, .f32⟩
  | .hbm, ⟨52, _⟩ => ⟨S16896x2048, .f32⟩
  | .hbm, ⟨53, _⟩ => ⟨S_, .f32⟩
  | .hbm, ⟨54, _⟩ => ⟨S16896x2048, .f32⟩
  | .hbm, ⟨55, _⟩ => ⟨S16896x2048, .f32⟩
  | .hbm, ⟨56, _⟩ => ⟨S_, .f32⟩
  | .hbm, ⟨57, _⟩ => ⟨S16896x2048, .f32⟩
  | .hbm, ⟨58, _⟩ => ⟨S16896x2048, .f32⟩
  | .hbm, ⟨59, _⟩ => ⟨S16896x2048, .f32⟩
  | .hbm, ⟨60, _⟩ => ⟨S16896x2048, .bf16⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16896x2048, .f32⟩
  | .hbm, ⟨65, _⟩ => ⟨S16896x2048, .f32⟩
  | .hbm, ⟨66, _⟩ => ⟨S16896x2048, .bf16⟩
  | .hbm, ⟨67, _⟩ => ⟨S16896x2048, .f32⟩
  | .hbm, ⟨68, _⟩ => ⟨S16896x2048, .f32⟩
  | .hbm, ⟨69, _⟩ => ⟨S_, .f32⟩
  | .hbm, ⟨70, _⟩ => ⟨S16896x2048, .f32⟩
  | .hbm, ⟨71, _⟩ => ⟨S16896x2048, .f32⟩
  | .hbm, ⟨72, _⟩ => ⟨S_, .f32⟩
  | .hbm, ⟨73, _⟩ => ⟨S16896x2048, .f32⟩
  | .hbm, ⟨74, _⟩ => ⟨S16896x2048, .f32⟩
  | .hbm, ⟨75, _⟩ => ⟨S16896x2048, .f32⟩
  | .hbm, ⟨76, _⟩ => ⟨S16896x2048, .bf16⟩
  | _, _ => ⟨S4x4112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call1_v0 : Ref sig .tc := ⟨.hbm, 18, rfl⟩
abbrev main_call1_call0_cst : Ref sig .tc := ⟨.hbm, 19, rfl⟩
abbrev main_call1_call0_v0 : Ref sig .tc := ⟨.hbm, 20, rfl⟩
abbrev main_call1_call0_v1 : Ref sig .tc := ⟨.hbm, 21, rfl⟩
abbrev main_call1_call0_v2 : Ref sig .tc := ⟨.hbm, 22, rfl⟩
abbrev main_call1_call0_v3 : Ref sig .tc := ⟨.hbm, 23, rfl⟩
abbrev main_call1_call0_v4 : Ref sig .tc := ⟨.hbm, 24, rfl⟩
abbrev main_call1_call0_v5 : Ref sig .tc := ⟨.hbm, 25, rfl⟩
abbrev main_call1_call0_v6 : Ref sig .tc := ⟨.hbm, 26, rfl⟩
abbrev main_call1_call0_v7 : Ref sig .tc := ⟨.hbm, 27, rfl⟩
abbrev main_call1_call0_v8 : Ref sig .tc := ⟨.hbm, 28, rfl⟩
abbrev main_call1_call0_v9 : Ref sig .tc := ⟨.hbm, 29, rfl⟩
abbrev main_call1_call0_v10 : Ref sig .tc := ⟨.hbm, 30, rfl⟩
abbrev main_call1_call0_v11 : Ref sig .tc := ⟨.hbm, 31, rfl⟩
abbrev main_call1_v1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v31 : Ref sig .tc := ⟨.hbm, 59, rfl⟩
abbrev main_v32 : Ref sig .tc := ⟨.hbm, 60, rfl⟩
abbrev main_cst : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_call3_v0 : Ref sig .tc := ⟨.hbm, 67, rfl⟩
abbrev main_call3_v1 : Ref sig .tc := ⟨.hbm, 68, rfl⟩
abbrev main_call3_cst : Ref sig .tc := ⟨.hbm, 69, rfl⟩
abbrev main_call3_v2 : Ref sig .tc := ⟨.hbm, 70, rfl⟩
abbrev main_call3_v3 : Ref sig .tc := ⟨.hbm, 71, rfl⟩
abbrev main_call3_cst_0 : Ref sig .tc := ⟨.hbm, 72, rfl⟩
abbrev main_call3_v4 : Ref sig .tc := ⟨.hbm, 73, rfl⟩
abbrev main_call3_v5 : Ref sig .tc := ⟨.hbm, 74, rfl⟩
abbrev main_v38 : Ref sig .tc := ⟨.hbm, 75, rfl⟩
abbrev main_v39 : Ref sig .tc := ⟨.hbm, 76, rfl⟩

abbrev nD : Nat := 1
abbrev τ : Topo := Topo.v7x

variable {F : FTy → Type} [FloatOps F]
-- ==== AttIn.lean ====
abbrev S4x4112x2048 : Shape := ⟨3, ![4, 4112, 2048]⟩
abbrev S2x2048x2336 : Shape := ⟨3, ![2, 2048, 2336]⟩
abbrev S_ : Shape := ⟨0, ![]⟩
abbrev S4x112x2048 : Shape := ⟨3, ![4, 112, 2048]⟩
abbrev S4x4224x2048 : Shape := ⟨3, ![4, 4224, 2048]⟩
abbrev S16896x2048 : Shape := ⟨2, ![16896, 2048]⟩
abbrev S1x2048x2336 : Shape := ⟨3, ![1, 2048, 2336]⟩
abbrev S2048x2336 : Shape := ⟨2, ![2048, 2336]⟩
abbrev S2048x32 : Shape := ⟨2, ![2048, 32]⟩
abbrev S2048x16 : Shape := ⟨2, ![2048, 16]⟩
abbrev S2048x64 : Shape := ⟨2, ![2048, 64]⟩
abbrev S2048x2304 : Shape := ⟨2, ![2048, 2304]⟩
abbrev S2048x2560 : Shape := ⟨2, ![2048, 2560]⟩
abbrev S16896x2560 : Shape := ⟨2, ![16896, 2560]⟩
abbrev S1408x2048 : Shape := ⟨2, ![1408, 2048]⟩
abbrev S2048x1280 : Shape := ⟨2, ![2048, 1280]⟩
abbrev S1408x1280 : Shape := ⟨2, ![1408, 1280]⟩

abbrev nBuf : Space → Nat
  | .hbm => 21
  | .vmem => 6
  | .smem => 0
  | _ => 0

abbrev bufTy : (tb : Table) → Fin (tcTables nBuf tb) → BufTy
  | .hbm, ⟨0, _⟩ => ⟨S4x4112x2048, .bf16⟩
  | .hbm, ⟨1, _⟩ => ⟨S2x2048x2336, .f32⟩
  | .hbm, ⟨2, _⟩ => ⟨S_, .bf16⟩
  | .hbm, ⟨3, _⟩ => ⟨S4x112x2048, .bf16⟩
  | .hbm, ⟨4, _⟩ => ⟨S4x4224x2048, .bf16⟩
  | .hbm, ⟨5, _⟩ => ⟨S16896x2048, .bf16⟩
  | .hbm, ⟨6, _⟩ => ⟨S1x2048x2336, .f32⟩
  | .hbm, ⟨7, _⟩ => ⟨S2048x2336, .f32⟩
  | .hbm, ⟨8, _⟩ => ⟨S2048x32, .f32⟩
  | .hbm, ⟨9, _⟩ => ⟨S2048x16, .f32⟩
  | .hbm, ⟨10, _⟩ => ⟨S2048x16, .f32⟩
  | .hbm, ⟨11, _⟩ => ⟨S2048x16, .f32⟩
  | .hbm, ⟨12, _⟩ => ⟨S2048x32, .f32⟩
  | .hbm, ⟨13, _⟩ => ⟨S_, .f32⟩
  | .hbm, ⟨14, _⟩ => ⟨S2048x64, .f32⟩
  | .hbm, ⟨15, _⟩ => ⟨S_, .f32⟩
  | .hbm, ⟨16, _⟩ => ⟨S2048x32, .f32⟩
  | .hbm, ⟨17, _⟩ => ⟨S2048x2304, .f32⟩
  | .hbm, ⟨18, _⟩ => ⟨S2048x2560, .f32⟩
  | .hbm, ⟨19, _⟩ => ⟨S2048x2560, .bf16⟩
  | .hbm, ⟨20, _⟩ => ⟨S16896x2560, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1408x1280, .bf16⟩
  | .local _ .vmem, ⟨5, _⟩ => ⟨S1408x1280, .bf16⟩
  | _, _ => ⟨S4x4112x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttInRefIdeal.lean ====
abbrev S4x4112x2048 : Shape := ⟨3, ![4, 4112, 2048]⟩
abbrev S2x2048x2336 : Shape := ⟨3, ![2, 2048, 2336]⟩
abbrev S_ : Shape := ⟨0, ![]⟩
abbrev S4x4224x2048 : Shape := ⟨3, ![4, 4224, 2048]⟩
abbrev S16896x2048 : Shape := ⟨2, ![16896, 2048]⟩
abbrev S1x2048x2336 : Shape := ⟨3, ![1, 2048, 2336]⟩
abbrev S2048x2336 : Shape := ⟨2, ![2048, 2336]⟩
abbrev S16896x2336 : Shape := ⟨2, ![16896, 2336]⟩
abbrev S16896x2304 : Shape := ⟨2, ![16896, 2304]⟩
abbrev S16896x32 : Shape := ⟨2, ![16896, 32]⟩
abbrev S16896x16 : Shape := ⟨2, ![16896, 16]⟩
abbrev S16896x64 : Shape := ⟨2, ![16896, 64]⟩
abbrev S16896x2560 : Shape := ⟨2, ![16896, 2560]⟩

abbrev nBuf : Space → Nat
  | .hbm => 21
  | .vmem => 0
  | .smem => 0
  | _ => 0

abbrev bufTy : (tb : Table) → Fin (tcTables nBuf tb) → BufTy
  | .hbm, ⟨0, _⟩ => ⟨S4x4112x2048, .bf16⟩
  | .hbm, ⟨1, _⟩ => ⟨S2x2048x2336, .f32⟩
  | .hbm, ⟨2, _⟩ => ⟨S4x4112x2048, .f32⟩
  | .hbm, ⟨3, _⟩ => ⟨S_, .i32⟩
  | .hbm, ⟨4, _⟩ => ⟨S_, .f32⟩
  | .hbm, ⟨5, _⟩ => ⟨S4x4224x2048, .f32⟩
  | .hbm, ⟨6, _⟩ => ⟨S16896x2048, .f32⟩
  | .hbm, ⟨7, _⟩ => ⟨S1x2048x2336, .f32⟩
  | .hbm, ⟨8, _⟩ => ⟨S2048x2336, .f32⟩
  | .hbm, ⟨9, _⟩ => ⟨S16896x2336, .f32⟩
  | .hbm, ⟨10, _⟩ => ⟨S16896x2304, .f32⟩
  | .hbm, ⟨11, _⟩ => ⟨S16896x32, .f32⟩
  | .hbm, ⟨12, _⟩ => ⟨S16896x16, .f32⟩
  | .hbm, ⟨13, _⟩ => ⟨S16896x16, .f32⟩
  | .hbm, ⟨14, _⟩ => ⟨S_, .f32⟩
  | .hbm, ⟨15, _⟩ => ⟨S16896x64, .f32⟩
  | .hbm, ⟨16, _⟩ => ⟨S_, .f32⟩
  | .hbm, ⟨17, _⟩ => ⟨S16896x32, .f32⟩
  | .hbm, ⟨18, _⟩ => ⟨S16896x16, .f32⟩
  | .hbm, ⟨19, _⟩ => ⟨S16896x2560, .f32⟩
  | .hbm, ⟨20, _⟩ => ⟨S16896x2560, .bf16⟩
  | _, _ => ⟨S4x4112x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.FinalValue.lean ====
module

public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinalValue
open Cert.KernelIdeal Cert.KernelIdeal.Gen

/-- The residual row after the down projection: `hs + g W` at batch `b`, position `l`, column `n`. -/
def resid (g : FVec Ideal S4x4112x5632 .bf16) (hs : FVec Ideal S4x4112x2048 .f32) (w : FVec Ideal S4x5632x2048 .f32)
    (b : Fin 4) (l : Fin 4112) (n : Fin 2048) : EReal :=
  hs (ix3 b l n) + ∑ k : Fin 5632, g (ix3 b l k) * w (ix3 3 k n)

/-- The result at batch `b`, position `l` (meta tokens counted), column `n`: the residual row, normalised and scaled. -/
def normed (g : FVec Ideal S4x4112x5632 .bf16) (hs : FVec Ideal S4x4112x2048 .f32) (w : FVec Ideal S4x5632x2048 .f32)
    (gain : FVec Ideal S2048 .f32) (b : Fin 4) (l : Fin 4112) (n : Fin 2048) : EReal :=
  resid g hs w b l n
    * Ideal.rsqrt (Ideal.div (∑ x : Fin 2048, resid g hs w b l x * resid g hs w b l x) (Ideal.ofBits FTy.f32 1157627904#32)
        + Ideal.ofBits FTy.f32 897988541#32)
    * gain (ix1 n)

/-- Where the blocks of grid point `t` (batch `t / 16`, row block `t % 16`) lie. -/
theorem idx : ∀ t : Fin cfg0.N,
    win0_0.index t = ![t.val / 16 * 4224 + 128 + t.val % 16 * 256, 0]
    ∧ win0_1.index t = ![3, 0, 0]
    ∧ win0_2.index t = ![t.val / 16 * 4224 + 128 + t.val % 16 * 256, 0]
    ∧ win0_3.index t = ![0, 0]
    ∧ win0_4.index t = ![t.val, 0] :=
  (by decide +kernel : ∀ t : Fin grid0.N, _)

variable (m : (ℓ : Loc nD τ sig) → Buf (Elt Ideal) ℓ)

/-- The framed hidden array at the region's entry: row `b * 4224 + 112 + l` is row `l` of batch `b`. -/
theorem entry_g (c : Dev nD) (b : Fin 4) (l : Fin 4112) (k : Fin 5632) (r : Fin 16896) (hr : r.val = b.val * 4224 + 112 + l.val) :
    (V m c main_v2 : FVec Ideal S16896x5632 .bf16) (ix2 r k) = (m ((c : Thread nD τ).loc main_arg0) : FVec Ideal S4x4112x5632 .bf16) (ix3 b l k) := by
  entry_read
  pointwise
  rw [dif_neg (by omega)]
  blk_ext

/-- The framed residual at the region's entry. -/
theorem entry_hs (c : Dev nD) (b : Fin 4) (l : Fin 4112) (k : Fin 2048) (r : Fin 16896) (hr : r.val = b.val * 4224 + 112 + l.val) :
    (V m c main_v6 : FVec Ideal S16896x2048 .f32) (ix2 r k) = (m ((c : Thread nD τ).loc main_arg1) : FVec Ideal S4x4112x2048 .f32) (ix3 b l k) := by
  entry_read
  pointwise
  rw [dif_neg (by omega)]
  blk_ext

/-- The block of hidden rows at point `t`. -/
theorem blk_g (c : Dev nD) (t : Fin cfg0.N) (b : Fin 4) (l : Fin 4112) (r : Fin 256) (k : Fin 5632)
    (hb : b.val = t.val / 16) (hl : l.val = 16 + t.val % 16 * 256 + r.val) :
    (iblk m c 0 t : FVec Ideal S256x5632 .bf16) (ix2 r k) = (m ((c : Thread nD τ).loc main_arg0) : FVec Ideal S4x4112x5632 .bf16) (ix3 b l k) := by
  have ht : t.val < 64 := lt_of_lt_of_eq t.isLt N_0
  have hr : t.val / 16 * 4224 + 128 + t.val % 16 * 256 + r.val < 16896 := by omega
  rw [← entry_g m c b l k ⟨_, hr⟩ (by show _ + _ = _; omega)]
  blk_ext [iblk]
  · refine (win0_0.rect_emb_val_off t (ix2 r k) 0).trans ?_
    show win0_0.index t 0 + r.val = _
    rw [(idx t).1]; rfl
  · refine (win0_0.rect_emb_val_off t (ix2 r k) 1).trans ?_
    show win0_0.index t 1 + k.val = _
    rw [(idx t).1]; exact Nat.zero_add _

/-- The block of residual rows at point `t`. -/
theorem blk_hs (c : Dev nD) (t : Fin cfg0.N) (b : Fin 4) (l : Fin 4112) (r : Fin 256) (k : Fin 2048)
    (hb : b.val = t.val / 16) (hl : l.val = 16 + t.val % 16 * 256 + r.val) :
    (iblk m c 2 t : FVec Ideal S256x2048 .f32) (ix2 r k) = (m ((c : Thread nD τ).loc main_arg1) : FVec Ideal S4x4112x2048 .f32) (ix3 b l k) := by
  have ht : t.val < 64 := lt_of_lt_of_eq t.isLt N_0
  have hr : t.val / 16 * 4224 + 128 + t.val % 16 * 256 + r.val < 16896 := by omega
  rw [← entry_hs m c b l k ⟨_, hr⟩ (by show _ + _ = _; omega)]
  blk_ext [iblk]
  · refine (win0_2.rect_emb_val_off t (ix2 r k) 0).trans ?_
    show win0_2.index t 0 + r.val = _
    rw [(idx t).2.2.1]; rfl
  · refine (win0_2.rect_emb_val_off t (ix2 r k) 1).trans ?_
    show win0_2.index t 1 + k.val = _
    rw [(idx t).2.2.1]; exact Nat.zero_add _

/-- The weight's block: the last layer's matrix. -/
theorem blk_w (c : Dev nD) (t : Fin cfg0.N) (k : Fin 5632) (n : Fin 2048) :
    (iblk m c 1 t : FVec Ideal S1x5632x2048 .bf16) (ix3 0 k n) = (m ((c : Thread nD τ).loc main_arg2) : FVec Ideal S4x5632x2048 .f32) (ix3 3 k n) := by
  have e : (iblk m c 1 t : FVec Ideal S1x5632x2048 .bf16) (ix3 0 k n) = (V m c main_v3 : FVec Ideal S4x5632x2048 .bf16) (ix3 3 k n) := by
    blk_ext [iblk, idx t]
  rw [e]
  entry_read
  pointwise

/-- The gain's block. -/
theorem blk_gain (c : Dev nD) (t : Fin cfg0.N) (n : Fin 2048) :
    (iblk m c 3 t : FVec Ideal S1x2048 .f32) (ix2 0 n) = (m ((c : Thread nD τ).loc main_arg3) : FVec Ideal S2048 .f32) (ix1 n) := by
  have e : (iblk m c 3 t : FVec Ideal S1x2048 .f32) (ix2 0 n) = (V m c main_v7 : FVec Ideal S1x2048 .f32) (ix2 0 n) := by
    blk_ext [iblk, idx t]
  rw [e]
  entry_read
  pointwise

/-- What the body stores at row `y0`, column `y1` of its block. -/
theorem point (c : Dev nD) (t : Fin cfg0.N) (b : Fin 4) (l : Fin 4112) (r : Fin 256) (n : Fin 2048)
    (hb : b.val = t.val / 16) (hl : l.val = 16 + t.val % 16 * 256 + r.val) :
    k0_pay1 (F := Ideal) (iblk m c 2 t) (iblk m c 0 t) (iblk m c 1 t) (iblk m c 3 t) (ix2 r n)
      = normed (m ((c : Thread nD τ).loc main_arg0)) (m ((c : Thread nD τ).loc main_arg1)) (m ((c : Thread nD τ).loc main_arg2))
          (m ((c : Thread nD τ).loc main_arg3)) b l n := by
  pointwise [k0_pay1, normed, resid]
  simp only [blk_g m c t b l r _ hb hl, blk_hs m c t b l r _ hb hl, blk_w m c t, blk_gain m c t]

/-- The result array as one function of the arguments. -/
def result (g : FVec Ideal S4x4112x5632 .bf16) (hs : FVec Ideal S4x4112x2048 .f32) (w : FVec Ideal S4x5632x2048 .f32)
    (gain : FVec Ideal S2048 .f32) : FVec Ideal S16384x2048 .f32 := fun i =>
  normed g hs w gain ⟨(i 0).val / 4096, by have := (i 0).isLt; change (i 0).val < 16384 at this; omega⟩
    ⟨16 + (i 0).val % 4096, by omega⟩ (i 1)

/-- The block that point `t` stores is `result` at the block's place. -/
theorem emb_out (c : Dev nD) (t : Fin cfg0.N) (y : S256x2048.Idx) :
    k0_pay1 (F := Ideal) (iblk m c 2 t) (iblk m c 0 t) (iblk m c 1 t) (iblk m c 3 t) y
      = result (m ((c : Thread nD τ).loc main_arg0)) (m ((c : Thread nD τ).loc main_arg1)) (m ((c : Thread nD τ).loc main_arg2))
          (m ((c : Thread nD τ).loc main_arg3)) (((View.whole main_v8).slice (win0_4.rect t)).emb y) := by
  have ht : t.val < 64 := lt_of_lt_of_eq t.isLt N_0
  idx_vars y
  have e0 : ((((View.whole main_v8).slice (win0_4.rect t)).emb (ix2 y0 y1)) 0 : ℕ) = t.val * 256 + y0.val := by
    blk_simp [idx t]
  have e1 : ((((View.whole main_v8).slice (win0_4.rect t)).emb (ix2 y0 y1)) 1) = y1 := Fin.ext (by
    blk_simp [idx t])
  unfold result
  rw [e1]
  exact point m c t _ _ y0 y1 (by show _ / 4096 = _; rw [e0]; omega) (by show 16 + _ % 4096 = _; rw [e0]; omega)

/-- After the run the kernel's result is `result` of its arguments. -/
theorem final (c : Dev nD) : (dats m 0 c).arrAt 4 (cfgs 0).N
    = result (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]; frame_out
  have ht : t.val < 64 := lt_of_lt_of_eq t.isLt N_0
  exact emb_out m c t y

end Cert.FinalValue

end
-- ==== Proof.FfnUpValue.lean ====
module

public import proofs.«01_k».proof.Proof.Gen.FfnUpIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUpValue
open Cert.FfnUpIdeal Cert.FfnUpIdeal.Gen

/-- Row `r` of the framed hidden state: 112 rows of zeros before each batch's 4112 rows. -/
def framed (h : FVec Ideal S4x4112x2048 .bf16) (r : ℕ) (k : Fin 2048) : EReal :=
  if hr : 112 ≤ r % 4224 ∧ r < 16896 then h (ix3 ⟨r / 4224, by omega⟩ ⟨r % 4224 - 112, by omega⟩ k) else 0

/-- Framed row `r` times a weight matrix of the first layer, column `n`. -/
def proj (h : FVec Ideal S4x4112x2048 .bf16) (w : FVec Ideal S4x2048x5632 .f32) (r : ℕ) (n : Fin 5632) : EReal :=
  ∑ k : Fin 2048, framed h r k * w (ix3 0 k n)

/-- The causal convolution of three framed gate rows, with its bias. -/
def conv (h : FVec Ideal S4x4112x2048 .bf16) (wg : FVec Ideal S4x2048x5632 .f32) (cw : FVec Ideal S4x3x5632 .f32)
    (cb : FVec Ideal S4x5632 .f32) (r : ℕ) (n : Fin 5632) : EReal :=
  cb (ix2 0 n) + cw (ix3 0 2 n) * proj h wg r n + cw (ix3 0 0 n) * proj h wg (r - 2) n + cw (ix3 0 1 n) * proj h wg (r - 1) n

/-- `x` times its logistic function. -/
def silu (x : EReal) : EReal := x * Ideal.div 1 (1 + Ideal.exp (-x))

/-- The result array as one function of the arguments. -/
def result (h : FVec Ideal S4x4112x2048 .bf16) (wu wg : FVec Ideal S4x2048x5632 .f32) (cw : FVec Ideal S4x3x5632 .f32)
    (cb : FVec Ideal S4x5632 .f32) : FVec Ideal S16896x5632 .bf16 := fun i =>
  silu (conv h wg cw cb (i 0).val (i 1)) * proj h wu (i 0).val (i 1)

/-- Where the blocks of grid point `t` (row block `t / 11`, column block `t % 11`) lie. -/
theorem idx : ∀ t : Fin cfg0.N,
    win0_0.index t = ![t.val / 11, 0]
    ∧ win0_1.index t = ![t.val / 11 * 88 - 1, 0]
    ∧ win0_2.index t = ![0, 0, t.val % 11]
    ∧ win0_3.index t = ![0, 0, t.val % 11]
    ∧ win0_4.index t = ![0, 0, t.val % 11]
    ∧ win0_5.index t = ![0, 0, t.val % 11]
    ∧ win0_6.index t = ![t.val / 11, t.val % 11] :=
  (by decide +kernel : ∀ t : Fin grid0.N, _)

variable (m : (ℓ : Loc nD τ sig) → Buf (Elt Ideal) ℓ)

/-- The framed hidden array at the region's entry. -/
theorem entry_h (c : Dev nD) (r : Fin 16896) (k : Fin 2048) :
    (V m c main_v2 : FVec Ideal S16896x2048 .bf16) (ix2 r k) = framed (m ((c : Thread nD τ).loc main_arg0)) r.val k := by
  unfold framed
  entry_read
  pointwise
  by_cases h : r.val % 4224 < 112
  · rw [dif_pos h, dif_neg (by omega)]
  · rw [dif_neg h, dif_pos (by omega)]

/-- The block of rows at point `t`. -/
theorem blk_x (c : Dev nD) (t : Fin cfg0.N) (r : Fin 1408) (k : Fin 2048) :
    (iblk m c 0 t : FVec Ideal S1408x2048 .bf16) (ix2 r k) = framed (m ((c : Thread nD τ).loc main_arg0)) (t.val / 11 * 1408 + r.val) k := by
  have ht : t.val < 132 := lt_of_lt_of_eq t.isLt N_0
  rw [← entry_h m c ⟨t.val / 11 * 1408 + r.val, by omega⟩ k]
  blk_ext [iblk, idx t]

/-- The halo block at point `t`. -/
theorem blk_halo (c : Dev nD) (t : Fin cfg0.N) (r : Fin 16) (k : Fin 2048) :
    (iblk m c 1 t : FVec Ideal S16x2048 .bf16) (ix2 r k) = framed (m ((c : Thread nD τ).loc main_arg0)) ((t.val / 11 * 88 - 1) * 16 + r.val) k := by
  have ht : t.val < 132 := lt_of_lt_of_eq t.isLt N_0
  rw [← entry_h m c ⟨(t.val / 11 * 88 - 1) * 16 + r.val, by omega⟩ k]
  blk_ext [iblk, idx t]

/-- The column `n` of the whole array at column `y` of point `t`'s blocks. -/
abbrev col (t : Fin cfg0.N) (y : Fin 512) : Fin 5632 := ⟨t.val % 11 * 512 + y.val, by omega⟩

theorem blk_wu (c : Dev nD) (t : Fin cfg0.N) (k : Fin 2048) (y : Fin 512) :
    (iblk m c 2 t : FVec Ideal S1x2048x512 .f32) (ix3 0 k y) = (m ((c : Thread nD τ).loc main_arg1) : FVec Ideal S4x2048x5632 .f32) (ix3 0 k (col t y)) := by
  blk_ext [iblk, V, idx t]

theorem blk_wg (c : Dev nD) (t : Fin cfg0.N) (k : Fin 2048) (y : Fin 512) :
    (iblk m c 3 t : FVec Ideal S1x2048x512 .f32) (ix3 0 k y) = (m ((c : Thread nD τ).loc main_arg2) : FVec Ideal S4x2048x5632 .f32) (ix3 0 k (col t y)) := by
  blk_ext [iblk, V, idx t]

theorem blk_cw (c : Dev nD) (t : Fin cfg0.N) (j : Fin 3) (y : Fin 512) :
    (iblk m c 4 t : FVec Ideal S1x3x512 .f32) (ix3 0 j y) = (m ((c : Thread nD τ).loc main_arg3) : FVec Ideal S4x3x5632 .f32) (ix3 0 j (col t y)) := by
  blk_ext [iblk, V, idx t]

theorem blk_cb (c : Dev nD) (t : Fin cfg0.N) (y : Fin 512) :
    (iblk m c 5 t : FVec Ideal S1x1x512 .f32) (ix3 0 0 y) = (m ((c : Thread nD τ).loc main_arg4) : FVec Ideal S4x5632 .f32) (ix2 0 (col t y)) := by
  have e : (iblk m c 5 t : FVec Ideal S1x1x512 .f32) (ix3 0 0 y) = (V m c main_v3 : FVec Ideal S4x1x5632 .f32) (ix3 0 0 (col t y)) := by
    blk_ext [iblk, idx t]
  rw [e]
  entry_read
  pointwise

/-- A load of 1408 rows from row `o` of a scratch that was stored whole. -/
theorem load_rows {κ : Kind} {sp : Space} (v : View sig κ sp S1424x512 .f32) (P : S1424x512.Idx → Elt Ideal .f32) (o : ℕ)
    (inb : ∀ a, (![0, 0] : Fin 2 → ℕ) a + S1424x512.size a ≤ S1424x512.size a)
    (inb' : ∀ a, (![o, 0] : Fin 2 → ℕ) a + S1408x512.size a ≤ S1424x512.size a) (ho : o ≤ 16) (y0 : Fin 1408) (y1 : Fin 512) :
    v.readCov [(⟨Rect.unit ![0, 0] S1424x512.size inb, P⟩ : View.Piece (Elt Ideal) S1424x512 .f32)]
      (Rect.unit (s := S1424x512) ![o, 0] S1408x512.size inb').toLoadRect (ix2 y0 y1) = P (ix2 ⟨o + y0.val, by omega⟩ y1) := by
  rw [View.readCov_eq_canon']
  have e : (Rect.unit (s := S1424x512) ![o, 0] S1408x512.size inb').emb (ix2 y0 y1)
      = (Rect.unit (s := S1424x512) ![0, 0] S1424x512.size inb).emb (ix2 ⟨o + y0.val, by omega⟩ y1) := by
    blk_ext
  change View.canon _ ((Rect.unit (s := S1424x512) ![o, 0] S1408x512.size inb').emb (ix2 y0 y1)) = _
  rw [e]
  exact View.canon_cons_emb (Rect.unit (s := S1424x512) ![0, 0] S1424x512.size inb) P [] _

/-- The scratch of left operands at the first column block: the halo rows, then the block's own rows. -/
theorem lhs_A (c : Dev nD) (t : Fin cfg0.N) (r : Fin 1424) (k : Fin 2048)
    (inb : ∀ a, (![16, 0] : Fin 2 → ℕ) a + S1408x2048.size a ≤ S1424x2048.size a)
    (inb' : ∀ a, (![0, 0] : Fin 2 → ℕ) a + S16x2048.size a ≤ S1424x2048.size a) :
    View.canon [(⟨Rect.unit ![16, 0] S1408x2048.size inb, k0_pay3 (F := Ideal) (iblk m c 0 t)⟩ : View.Piece (Elt Ideal) S1424x2048 .bf16),
        ⟨Rect.unit ![0, 0] S16x2048.size inb', k0_pay2 (F := Ideal) (iblk m c 1 t)⟩] (ix2 r k)
      = framed (m ((c : Thread nD τ).loc main_arg0))
          (if r.val < 16 then (t.val / 11 * 88 - 1) * 16 + r.val else t.val / 11 * 1408 + (r.val - 16)) k := by
  by_cases hr : r.val < 16
  · rw [if_pos hr]
    have e : (ix2 r k : S1424x2048.Idx) = (Rect.unit (s := S1424x2048) ![0, 0] S16x2048.size inb').emb (ix2 ⟨r.val, hr⟩ k) := by
      blk_ext
    refine (View.canon_cons_of_not_mem _ _ ?_).trans ?_
    · intro hm
      have := ((Rect.mem_set_unit (s := S1424x2048) (inb := inb)).mp hm 0).1
      change 16 ≤ r.val at this
      omega
    rw [e]
    refine (View.canon_cons_emb (Rect.unit (s := S1424x2048) ![0, 0] S16x2048.size inb') _ [] _).trans ?_
    pointwise [k0_pay2]
    exact blk_halo m c t ⟨r.val, hr⟩ k
  · rw [if_neg hr]
    have e : (ix2 r k : S1424x2048.Idx) = (Rect.unit (s := S1424x2048) ![16, 0] S1408x2048.size inb).emb (ix2 ⟨r.val - 16, by omega⟩ k) := by
      blk_ext
    rw [e]
    refine (View.canon_cons_emb (Rect.unit (s := S1424x2048) ![16, 0] S1408x2048.size inb) _ _ _).trans ?_
    pointwise [k0_pay3]
    exact blk_x m c t ⟨r.val - 16, by omega⟩ k

/-- The gate product at row `r`, column `y` of the block. -/
theorem gate_at (X : Vec Ideal S1424x2048 .bf16) (W : Vec Ideal S1x2048x512 .f32) (r : Fin 1424) (y : Fin 512) :
    k0_pay4 (F := Ideal) X W (ix2 r y) = ∑ k : Fin 2048, X (ix2 r k) * W (ix3 0 k y) := by
  pointwise [k0_pay4]

/-- The carried scratch after point `t`: the halo rows, then the block's own rows. -/
theorem scratch (c : Dev nD) (r : Fin 1424) (k : Fin 2048) : ∀ (n : ℕ) (hn : n < cfg0.N),
    ((outsAt0 m c n hn).2 : FVec Ideal S1424x2048 .bf16) (ix2 r k)
      = framed (m ((c : Thread nD τ).loc main_arg0))
          (if r.val < 16 then (n / 11 * 88 - 1) * 16 + r.val else n / 11 * 1408 + (r.val - 16)) k := by
  intro n
  induction n with
  | zero =>
    intro hn
    rw [outsAt0_A m c ⟨0, hn⟩ (by rfl)]; frame_out
    exact lhs_A m c ⟨0, hn⟩ r k _ _
  | succ n ih =>
    intro hn
    by_cases h : (n + 1) % 11 = 0
    · rw [outsAt0_A m c ⟨n + 1, hn⟩ h]; frame_out
      exact lhs_A m c ⟨n + 1, hn⟩ r k _ _
    · rw [outsAt0_B m c ⟨n + 1, hn⟩ h]
      have e : (n + 1) / 11 = n / 11 := by omega
      rw [e]
      exact ih _

/-- A framed row before the first real one of a batch is zero. -/
theorem proj_pad (h : FVec Ideal S4x4112x2048 .bf16) (w : FVec Ideal S4x2048x5632 .f32) (r : ℕ) (n : Fin 5632)
    (hr : r % 4224 < 112) : proj h w r n = 0 := by
  unfold proj
  refine Finset.sum_eq_zero fun k _ => ?_
  unfold framed
  rw [dif_neg (by omega), zero_mul]

/-- A framed row that holds row `l` of batch `b`. -/
theorem proj_row (h : FVec Ideal S4x4112x2048 .bf16) (w : FVec Ideal S4x2048x5632 .f32) (r : ℕ) (n : Fin 5632)
    (b l : ℕ) (hb : b < 4) (hl : l < 4112) (hr : r = b * 4224 + 112 + l) :
    proj h w r n = ∑ x : Fin 2048, h (ix3 ⟨b, hb⟩ ⟨l, hl⟩ x) * w (ix3 0 x n) := by
  unfold proj
  refine Finset.sum_congr rfl fun k _ => ?_
  unfold framed
  rw [dif_pos (by omega)]
  congr 3 <;> (apply Fin.ext; dsimp only; omega)

/-- A row of the padded gate array is a framed row's product. -/
theorem proj_dite (h : FVec Ideal S4x4112x2048 .bf16) (w : FVec Ideal S4x2048x5632 .f32) (r : ℕ) (n : Fin 5632)
    (b l : ℕ) {P : Prop} [Decidable P] (hb : P → b < 4) (hl : P → l < 4112) (z : EReal) (hz : z = 0)
    (hP : P → r = b * 4224 + 112 + l) (hN : ¬ P → r % 4224 < 112) :
    (if hp : P then ∑ x : Fin 2048, h (ix3 ⟨b, hb hp⟩ ⟨l, hl hp⟩ x) * w (ix3 0 x n) else z) = proj h w r n := by
  by_cases hp : P
  · rw [dif_pos hp, proj_row h w r n b l (hb hp) (hl hp) (hP hp)]
  · rw [dif_neg hp, proj_pad h w r n (hN hp), hz]

/-- What the body stores at row `y0`, column `y1` of its block, from the scratch of left operands `X`. -/
theorem core (c : Dev nD) (t : Fin cfg0.N) (X : Vec Ideal S1424x2048 .bf16)
    (hX : ∀ (r : Fin 1424) (k : Fin 2048), X (ix2 r k) = framed (m ((c : Thread nD τ).loc main_arg0))
          (if r.val < 16 then (t.val / 11 * 88 - 1) * 16 + r.val else t.val / 11 * 1408 + (r.val - 16)) k)
    {κ : Kind} {sp : Space} (v : View sig κ sp S1424x512 .f32)
    (inb : ∀ a, (![0, 0] : Fin 2 → ℕ) a + S1424x512.size a ≤ S1424x512.size a)
    (inb14 : ∀ a, (![14, 0] : Fin 2 → ℕ) a + S1408x512.size a ≤ S1424x512.size a)
    (inb15 : ∀ a, (![15, 0] : Fin 2 → ℕ) a + S1408x512.size a ≤ S1424x512.size a)
    (inb16 : ∀ a, (![16, 0] : Fin 2 → ℕ) a + S1408x512.size a ≤ S1424x512.size a)
    (y0 : Fin 1408) (y1 : Fin 512) (R : ℕ) (hR : R = t.val / 11 * 1408 + y0.val) :
    k0_pay1 (F := Ideal) (k0_pay5 (iblk m c 0 t) (iblk m c 2 t)) (k0_pay6 (iblk m c 4 t))
      (k0_pay7 (iblk m c 4 t) (iblk m c 5 t) (v.readCov [(⟨Rect.unit ![0, 0] S1424x512.size inb, k0_pay4 (F := Ideal) X (iblk m c 3 t)⟩ : View.Piece (Elt Ideal) S1424x512 .f32)]
        (Rect.unit (s := S1424x512) ![16, 0] S1408x512.size inb16).toLoadRect))
      (v.readCov [(⟨Rect.unit ![0, 0] S1424x512.size inb, k0_pay4 (F := Ideal) X (iblk m c 3 t)⟩ : View.Piece (Elt Ideal) S1424x512 .f32)]
        (Rect.unit (s := S1424x512) ![14, 0] S1408x512.size inb14).toLoadRect) (k0_pay8 (iblk m c 4 t))
      (v.readCov [(⟨Rect.unit ![0, 0] S1424x512.size inb, k0_pay4 (F := Ideal) X (iblk m c 3 t)⟩ : View.Piece (Elt Ideal) S1424x512 .f32)]
        (Rect.unit (s := S1424x512) ![15, 0] S1408x512.size inb15).toLoadRect) (ix2 y0 y1)
      = silu (conv (m ((c : Thread nD τ).loc main_arg0)) (m ((c : Thread nD τ).loc main_arg2)) (m ((c : Thread nD τ).loc main_arg3))
            (m ((c : Thread nD τ).loc main_arg4)) R (col t y1))
          * proj (m ((c : Thread nD τ).loc main_arg0)) (m ((c : Thread nD τ).loc main_arg1)) R (col t y1) := by
  have ht : t.val < 132 := lt_of_lt_of_eq t.isLt N_0
  have hu : proj (m ((c : Thread nD τ).loc main_arg0)) (m ((c : Thread nD τ).loc main_arg1)) R (col t y1)
      = ∑ x : Fin 2048, framed (m ((c : Thread nD τ).loc main_arg0)) (t.val / 11 * 1408 + y0.val) x
          * (m ((c : Thread nD τ).loc main_arg1) : FVec Ideal S4x2048x5632 .f32) (ix3 0 x (col t y1)) := by
    rw [hR]; rfl
  pointwise [k0_pay1, k0_pay5, k0_pay6, k0_pay7, k0_pay8]
  simp only [blk_x m c t, blk_wu m c t]
  rw [← hu]
  by_cases hp : R % 4224 < 112
  · rw [proj_pad _ _ _ _ hp, mul_zero, mul_zero]
  have hg : ∀ (o : ℕ) (ho : o ≤ 16) (ho' : 14 ≤ o) (q : ℕ) (hq : q = R - (16 - o)),
      k0_pay4 (F := Ideal) X (iblk m c 3 t) (ix2 ⟨o + y0.val, by omega⟩ y1)
        = proj (m ((c : Thread nD τ).loc main_arg0)) (m ((c : Thread nD τ).loc main_arg2)) q (col t y1) := by
    intro o ho ho' q hq
    rw [gate_at]
    unfold proj
    refine Finset.sum_congr rfl fun k _ => ?_
    rw [hX, blk_wg m c t]
    congr 2
    dsimp only
    split_ifs <;> omega
  rw [load_rows v _ 16 inb inb16 (by omega), load_rows v _ 14 inb inb14 (by omega), load_rows v _ 15 inb inb15 (by omega),
    hg 16 (by omega) (by omega) R (by omega), hg 14 (by omega) (by omega) (R - 2) (by omega), hg 15 (by omega) (by omega) (R - 1) (by omega),
    blk_cw m c t, blk_cw m c t, blk_cw m c t, blk_cb m c t]
  unfold silu conv
  rw [zero_sub]

/-- After point `t` the output's block holds `result` at the block's place. -/
theorem point (c : Dev nD) (t : Fin cfg0.N) (y0 : Fin 1408) (y1 : Fin 512) (R : ℕ) (hR : R = t.val / 11 * 1408 + y0.val) :
    ((outsAt0 m c t.val t.isLt).1 : FVec Ideal S1408x512 .bf16) (ix2 y0 y1)
      = silu (conv (m ((c : Thread nD τ).loc main_arg0)) (m ((c : Thread nD τ).loc main_arg2)) (m ((c : Thread nD τ).loc main_arg3))
            (m ((c : Thread nD τ).loc main_arg4)) R (col t y1))
          * proj (m ((c : Thread nD τ).loc main_arg0)) (m ((c : Thread nD τ).loc main_arg1)) R (col t y1) := by
  by_cases h : t.val % 11 = 0
  · rw [outsAt0_A m c t h]; frame_out
    refine core m c t _ ?_ _ _ _ _ _ y0 y1 R hR
    intro r k
    rw [View.readCov_eq_canon']
    have e : (Rect.unit (s := S1424x2048) ![0, 0] ![1424, 2048] inb_S1424x2048_S1424x2048_0_0).toLoadRect.idx (ix2 r k) = ix2 r k := by
      change (Rect.unit (s := S1424x2048) ![0, 0] ![1424, 2048] inb_S1424x2048_S1424x2048_0_0).emb (ix2 r k) = ix2 r k
      blk_ext
    change View.canon _ _ = _
    rw [e]
    exact lhs_A m c t r k _ _
  · rw [outsAt0_B m c t h]; frame_out
    refine core m c t _ ?_ _ _ _ _ _ y0 y1 R hR
    intro r k
    refine (congrFun ((Memref.isWhole_whole cc0_scratch0).read_unread _) _).trans ?_
    have ht : t.val < 132 := lt_of_lt_of_eq t.isLt N_0
    have e : (t.val - 1) / 11 = t.val / 11 := by omega
    rw [← e]
    exact scratch m c r k _ _

/-- After the run the kernel's result is `result` of its arguments. -/
theorem final (c : Dev nD) : (dats m 0 c).arrAt 6 (cfgs 0).N
    = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp
  rw [after0_6]
  have ht : t.val < 132 := lt_of_lt_of_eq t.isLt N_0
  idx_vars y
  have e0 : ((((View.whole main_v4).slice (win0_6.rect t)).emb (ix2 y0 y1)) 0 : ℕ) = t.val / 11 * 1408 + y0.val := by
    blk_simp [idx t]
  have e1 : ((((View.whole main_v4).slice (win0_6.rect t)).emb (ix2 y0 y1)) 1) = col t y1 := Fin.ext (by
    blk_simp [idx t])
  unfold result
  rw [e1, e0]
  exact point m c t y0 y1 _ rfl

end Cert.FfnUpValue

end
-- ==== Proof.FfnUpClaim.lean ====
module

public import proofs.«01_k».proof.Defs
public import proofs.«01_k».proof.Proof.FfnUpValue
public import proofs.«01_k».proof.Proof.Gen.FfnUpRefIdeal.Run
public import proofs.«01_k».proof.Proof.Gen.FfnUpRefIdeal.Read
public import Idealize.ShloMosaic.Adequacy
public import Idealize.ShloMosaic.Init

@[expose] public section

set_option maxRecDepth 16384

noncomputable section

namespace Cert.FfnUpClaim

open Idealize.ShloMosaic Idealize.SL.Sem Idealize.ShloMosaic.TcCoe

/-- The integer zero of a padding is the number zero. -/
theorem zero_f32 : FloatOps.sitofp (F := Ideal) FTy.f32 0#32 = (0 : EReal) := by
  show (((0#32 : BitVec 32).toInt : ℝ) : EReal) = 0
  simp

theorem zero_bf16 : FloatOps.sitofp (F := Ideal) FTy.bf16 0#32 = (0 : EReal) := by
  show (((0#32 : BitVec 32).toInt : ℝ) : EReal) = 0
  simp

/-- The gated value in the two programs' orders, from the four products' values. -/
theorem gated {A B C d s2 s1 s0 su p2 p1 p0 pu : EReal} (h2 : s2 = p2) (h1 : s1 = p1) (h0 : s0 = p0) (hu : su = pu) :
    (s2 * A + s1 * B + s0 * C + d) * Ideal.div 1 (1 + Ideal.exp (-(s2 * A + s1 * B + s0 * C + d))) * su
      = Cert.FfnUpValue.silu (d + C * p0 + A * p2 + B * p1) * pu := by
  rw [h2, h1, h0, hu]
  have e : p2 * A + p1 * B + p0 * C + d = d + C * p0 + A * p2 + B * p1 := by
    rw [mul_comm p2, mul_comm p1, mul_comm p0]
    ac_rfl
  rw [e]
  rfl

/-- The gated up projection: kernel and reference have equal results over the extended reals. -/
theorem algebraic : Cert.algebraic_FfnUpIdeal_FfnUpRefIdeal (hFfnUpIdeal := Cert.FfnUpIdeal.Gen.facts)
    (hFfnUpRefIdeal := Cert.FfnUpRefIdeal.Gen.facts) := by
  pair_intro
  · run_from Cert.FfnUpIdeal.Gen.run_main m g
  · run_from Cert.FfnUpRefIdeal.Value.run m' g'
    rw [Cert.FfnUpValue.final m c]
    unfold Cert.FfnUpRefIdeal.Value.res_main_v39
    simp only [hagree c]
    obtain ⟨x0, hx0⟩ : ∃ x : FVec Ideal Cert.FfnUpIdeal.S4x4112x2048 .bf16, x = m (c.tc.loc Cert.FfnUpIdeal.main_arg0) := ⟨_, rfl⟩
    obtain ⟨x1, hx1⟩ : ∃ x : FVec Ideal Cert.FfnUpIdeal.S4x2048x5632 .f32, x = m (c.tc.loc Cert.FfnUpIdeal.main_arg1) := ⟨_, rfl⟩
    obtain ⟨x2, hx2⟩ : ∃ x : FVec Ideal Cert.FfnUpIdeal.S4x2048x5632 .f32, x = m (c.tc.loc Cert.FfnUpIdeal.main_arg2) := ⟨_, rfl⟩
    obtain ⟨x3, hx3⟩ : ∃ x : FVec Ideal Cert.FfnUpIdeal.S4x3x5632 .f32, x = m (c.tc.loc Cert.FfnUpIdeal.main_arg3) := ⟨_, rfl⟩
    obtain ⟨x4, hx4⟩ : ∃ x : FVec Ideal Cert.FfnUpIdeal.S4x5632 .f32, x = m (c.tc.loc Cert.FfnUpIdeal.main_arg4) := ⟨_, rfl⟩
    rw [← hx0, ← hx1, ← hx2, ← hx3, ← hx4]
    funext j
    idx_vars j
    pointwise [Cert.FfnUpValue.result]
    have hj := j0.isLt
    by_cases hp : j0.val % 4224 < 112
    · rw [dif_neg (by omega), Cert.FfnUpValue.proj_pad _ _ _ _ hp, mul_zero]
      exact zero_bf16
    rw [dif_pos (⟨by omega, by omega, by omega⟩ : j0.val / 4224 < 4 ∧ 112 ≤ j0.val % 4224 ∧ j0.val % 4224 - 112 < 4112)]
    have g2 := Cert.FfnUpValue.proj_dite x0 x2 (j0.val - 2) j1
      (j0.val / 4224) (j0.val % 4224 - 112 - 2) (P := j0.val / 4224 < 4 ∧ 2 ≤ j0.val % 4224 - 112 ∧ j0.val % 4224 - 112 - 2 < 4112)
      (fun h => h.1) (fun h => h.2.2) _ zero_f32 (fun _ => by omega) (fun _ => by omega)
    have g1 := Cert.FfnUpValue.proj_dite x0 x2 (j0.val - 1) j1
      (j0.val / 4224) (1 + (j0.val % 4224 - 112) - 2) (P := j0.val / 4224 < 4 ∧ 2 ≤ 1 + (j0.val % 4224 - 112) ∧ 1 + (j0.val % 4224 - 112) - 2 < 4112)
      (fun h => h.1) (fun h => h.2.2) _ zero_f32 (fun _ => by omega) (fun _ => by omega)
    have g0 := Cert.FfnUpValue.proj_dite x0 x2 j0.val j1
      (j0.val / 4224) (j0.val % 4224 - 112) (P := j0.val / 4224 < 4 ∧ j0.val % 4224 - 112 < 4112)
      (fun h => h.1) (fun h => h.2) _ zero_f32 (fun _ => by omega) (fun _ => by omega)
    have gu := Cert.FfnUpValue.proj_row x0 x1 j0.val j1
      (j0.val / 4224) (j0.val % 4224 - 112) (by omega) (by omega) (by omega)
    exact gated g2 g1 g0 gu.symm

/-- The reference runs, leaves its arguments unchanged and has no counter to leave raised. -/
theorem frame_ref : Cert.quiescent_FfnUpRefIdeal (hFfnUpRefIdeal := Cert.FfnUpRefIdeal.Gen.facts) := fun m g _ =>
  (θ_run Cert.FfnUpRefIdeal.defs _ _).mono (fun r h => ⟨fun c => (h c).2, sem_eq_zero_of_no_sems (by decide) r.2⟩)
    (Cert.FfnUpRefIdeal.Value.run m g)

end Cert.FfnUpClaim

end
-- ==== Proof.FfnDownValue.lean ====
module

public import proofs.«01_k».proof.Proof.Gen.FfnDownIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownValue
open Cert.FfnDownIdeal Cert.FfnDownIdeal.Gen

/-- Row `r` of the framed left operand: 112 rows of zeros before each batch's 4112 rows. -/
def framedX (x : FVec Ideal S4x4112x5632 .bf16) (r : ℕ) (k : Fin 5632) : EReal :=
  if hr : 112 ≤ r % 4224 ∧ r < 16896 then x (ix3 ⟨r / 4224, by omega⟩ ⟨r % 4224 - 112, by omega⟩ k) else 0

/-- Row `r` of the framed residual. -/
def framedH (h : FVec Ideal S4x4112x2048 .f32) (r : ℕ) (n : Fin 2048) : EReal :=
  if hr : 112 ≤ r % 4224 ∧ r < 16896 then h (ix3 ⟨r / 4224, by omega⟩ ⟨r % 4224 - 112, by omega⟩ n) else 0

/-- Framed row `r` of the residual with the projection added, column `n`. -/
def resid (x : FVec Ideal S4x4112x5632 .bf16) (h : FVec Ideal S4x4112x2048 .f32) (w : FVec Ideal S4x5632x2048 .f32)
    (r : ℕ) (n : Fin 2048) : EReal :=
  framedH h r n + ∑ k : Fin 5632, framedX x r k * w (ix3 0 k n)

/-- The same row, normalised by its root mean square and scaled by the gain. -/
def normed (x : FVec Ideal S4x4112x5632 .bf16) (h : FVec Ideal S4x4112x2048 .f32) (w : FVec Ideal S4x5632x2048 .f32)
    (gain : FVec Ideal S4x2048 .f32) (r : ℕ) (n : Fin 2048) : EReal :=
  resid x h w r n
    * Ideal.rsqrt (Ideal.div (∑ z : Fin 2048, resid x h w r z * resid x h w r z) (Ideal.ofBits FTy.f32 1157627904#32)
        + Ideal.ofBits FTy.f32 897988541#32)
    * gain (ix2 1 n)

/-- The first result as one function of the arguments. -/
def resultH (x : FVec Ideal S4x4112x5632 .bf16) (h : FVec Ideal S4x4112x2048 .f32) (w : FVec Ideal S4x5632x2048 .f32) :
    FVec Ideal S16896x2048 .f32 := fun i => resid x h w (i 0).val (i 1)

/-- The second result as one function of the arguments. -/
def resultN (x : FVec Ideal S4x4112x5632 .bf16) (h : FVec Ideal S4x4112x2048 .f32) (w : FVec Ideal S4x5632x2048 .f32)
    (gain : FVec Ideal S4x2048 .f32) : FVec Ideal S16896x2048 .bf16 := fun i => normed x h w gain (i 0).val (i 1)

/-- Where the blocks of grid point `t` lie. -/
theorem idx : ∀ t : Fin cfg0.N,
    win0_0.index t = ![t.val, 0]
    ∧ win0_1.index t = ![0, 0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

variable (m : (ℓ : Loc nD τ sig) → Buf (Elt Ideal) ℓ)

theorem entry_x (c : Dev nD) (r : Fin 16896) (k : Fin 5632) :
    (V m c main_v2 : FVec Ideal S16896x5632 .bf16) (ix2 r k) = framedX (m ((c : Thread nD τ).loc main_arg0)) r.val k := by
  unfold framedX
  entry_read
  pointwise
  by_cases h : r.val % 4224 < 112
  · rw [dif_pos h, dif_neg (by omega)]
  · rw [dif_neg h, dif_pos (by omega)]

theorem blk_x (c : Dev nD) (t : Fin cfg0.N) (r : Fin 384) (k : Fin 5632) :
    (iblk m c 0 t : FVec Ideal S384x5632 .bf16) (ix2 r k) = framedX (m ((c : Thread nD τ).loc main_arg0)) (t.val * 384 + r.val) k := by
  have ht : t.val < 44 := lt_of_lt_of_eq t.isLt N_0
  rw [← entry_x m c ⟨t.val * 384 + r.val, by omega⟩ k]
  blk_ext [iblk, idx t]

theorem entry_h (c : Dev nD) (r : Fin 16896) (k : Fin 2048) :
    (V m c main_v6 : FVec Ideal S16896x2048 .f32) (ix2 r k) = framedH (m ((c : Thread nD τ).loc main_arg1)) r.val k := by
  unfold framedH
  entry_read
  pointwise
  by_cases h : r.val % 4224 < 112
  · rw [dif_pos h, dif_neg (by omega)]
  · rw [dif_neg h, dif_pos (by omega)]

theorem blk_h (c : Dev nD) (t : Fin cfg0.N) (r : Fin 384) (k : Fin 2048) :
    (iblk m c 2 t : FVec Ideal S384x2048 .f32) (ix2 r k) = framedH (m ((c : Thread nD τ).loc main_arg1)) (t.val * 384 + r.val) k := by
  have ht : t.val < 44 := lt_of_lt_of_eq t.isLt N_0
  rw [← entry_h m c ⟨t.val * 384 + r.val, by omega⟩ k]
  blk_ext [iblk, idx t]

/-- The weight's block is the layer's matrix. -/
theorem blk_w (c : Dev nD) (t : Fin cfg0.N) (k : Fin 5632) (n : Fin 2048) :
    (iblk m c 1 t : FVec Ideal S1x5632x2048 .bf16) (ix3 0 k n) = ((m ((c : Thread nD τ).loc main_arg2)) : FVec Ideal S4x5632x2048 .f32) (ix3 0 k n) := by
  have e : (iblk m c 1 t : FVec Ideal S1x5632x2048 .bf16) (ix3 0 k n) = (V m c main_v3 : FVec Ideal S4x5632x2048 .bf16) (ix3 0 k n) := by
    blk_ext [iblk, idx t]
  rw [e]
  entry_read
  pointwise

/-- The gain's block. -/
theorem blk_gain (c : Dev nD) (t : Fin cfg0.N) (n : Fin 2048) :
    (iblk m c 3 t : FVec Ideal S1x2048 .f32) (ix2 0 n) = ((m ((c : Thread nD τ).loc main_arg3)) : FVec Ideal S4x2048 .f32) (ix2 1 n) := by
  have e : (iblk m c 3 t : FVec Ideal S1x2048 .f32) (ix2 0 n) = (V m c main_v9 : FVec Ideal S1x2048 .f32) (ix2 0 n) := by
    blk_ext [iblk, idx t]
  rw [e]
  entry_read
  pointwise

/-- What the body stores of the residual at row `r`, column `n` of its block. -/
theorem point_h (c : Dev nD) (t : Fin cfg0.N) (r : Fin 384) (n : Fin 2048) :
    k0_pay1 (F := Ideal) (iblk m c 2 t) (iblk m c 0 t) (iblk m c 1 t) (ix2 r n)
      = resid (m ((c : Thread nD τ).loc main_arg0)) (m ((c : Thread nD τ).loc main_arg1)) (m ((c : Thread nD τ).loc main_arg2)) (t.val * 384 + r.val) n := by
  pointwise [k0_pay1, resid]
  simp only [blk_x m c t, blk_h m c t, blk_w m c t]

/-- What the body stores of the normalised row. -/
theorem point_n (c : Dev nD) (t : Fin cfg0.N) (r : Fin 384) (n : Fin 2048) :
    k0_pay2 (F := Ideal) (iblk m c 2 t) (iblk m c 0 t) (iblk m c 1 t) (iblk m c 3 t) (ix2 r n)
      = normed (m ((c : Thread nD τ).loc main_arg0)) (m ((c : Thread nD τ).loc main_arg1)) (m ((c : Thread nD τ).loc main_arg2)) (m ((c : Thread nD τ).loc main_arg3)) (t.val * 384 + r.val) n := by
  pointwise [k0_pay2, normed]
  simp only [point_h m c t, blk_gain m c t]

/-- The block that point `t` stores is the result at the block's place. -/
theorem emb_h (c : Dev nD) (t : Fin cfg0.N) (y : S384x2048.Idx) :
    k0_pay1 (F := Ideal) (iblk m c 2 t) (iblk m c 0 t) (iblk m c 1 t) y
      = resultH (m ((c : Thread nD τ).loc main_arg0)) (m ((c : Thread nD τ).loc main_arg1)) (m ((c : Thread nD τ).loc main_arg2)) (((View.whole main_v10_0).slice (win0_4.rect t)).emb y) := by
  idx_vars y
  have e0 : ((((View.whole main_v10_0).slice (win0_4.rect t)).emb (ix2 y0 y1)) 0 : ℕ) = t.val * 384 + y0.val := by
    blk_simp [idx t]
  have e1 : ((((View.whole main_v10_0).slice (win0_4.rect t)).emb (ix2 y0 y1)) 1) = y1 := Fin.ext (by
    blk_simp [idx t])
  unfold resultH
  rw [e0, e1]
  exact point_h m c t y0 y1

/-- After the run this result is `resultH` of the arguments. -/
theorem final_h (c : Dev nD) : (dats m 0 c).arrAt 4 (cfgs 0).N = resultH (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact emb_h m c t y

/-- The block that point `t` stores is the result at the block's place. -/
theorem emb_n (c : Dev nD) (t : Fin cfg0.N) (y : S384x2048.Idx) :
    k0_pay2 (F := Ideal) (iblk m c 2 t) (iblk m c 0 t) (iblk m c 1 t) (iblk m c 3 t) y
      = resultN (m ((c : Thread nD τ).loc main_arg0)) (m ((c : Thread nD τ).loc main_arg1)) (m ((c : Thread nD τ).loc main_arg2)) (m ((c : Thread nD τ).loc main_arg3)) (((View.whole main_v10_1).slice (win0_5.rect t)).emb y) := by
  idx_vars y
  have e0 : ((((View.whole main_v10_1).slice (win0_5.rect t)).emb (ix2 y0 y1)) 0 : ℕ) = t.val * 384 + y0.val := by
    blk_simp [idx t]
  have e1 : ((((View.whole main_v10_1).slice (win0_5.rect t)).emb (ix2 y0 y1)) 1) = y1 := Fin.ext (by
    blk_simp [idx t])
  unfold resultN
  rw [e0, e1]
  exact point_n m c t y0 y1

/-- After the run this result is `resultN` of the arguments. -/
theorem final_n (c : Dev nD) : (dats m 0 c).arrAt 5 (cfgs 0).N = resultN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact emb_n m c t y

end Cert.FfnDownValue

end
-- ==== Proof.FfnDownClaim.lean ====
module

public import proofs.«01_k».proof.Defs
public import proofs.«01_k».proof.Proof.FfnDownValue
public import proofs.«01_k».proof.Proof.Gen.FfnDownRefIdeal.Run
public import proofs.«01_k».proof.Proof.Gen.FfnDownRefIdeal.Read
public import Idealize.ShloMosaic.Adequacy
public import Idealize.ShloMosaic.Init

@[expose] public section

set_option maxRecDepth 16384

noncomputable section

namespace Cert.FfnDownClaim

open Idealize.ShloMosaic Idealize.SL.Sem Idealize.ShloMosaic.TcCoe

/-- The integer zero of a padding is the number zero. -/
theorem zero_f32 : FloatOps.sitofp (F := Ideal) FTy.f32 0#32 = (0 : EReal) := by
  show (((0#32 : BitVec 32).toInt : ℝ) : EReal) = 0
  simp

theorem zero_bf16 : FloatOps.sitofp (F := Ideal) FTy.bf16 0#32 = (0 : EReal) := by
  show (((0#32 : BitVec 32).toInt : ℝ) : EReal) = 0
  simp

/-- The down projection: kernel and reference have equal results over the extended reals. -/
theorem algebraic : Cert.algebraic_FfnDownIdeal_FfnDownRefIdeal (hFfnDownIdeal := Cert.FfnDownIdeal.Gen.facts)
    (hFfnDownRefIdeal := Cert.FfnDownRefIdeal.Gen.facts) := by
  pair_intro
  · run_from Cert.FfnDownIdeal.Gen.run_main m g
  · run_from Cert.FfnDownRefIdeal.Value.run m' g'
    · rw [Cert.FfnDownValue.final_h m c]
      funext j
      idx_vars j
      have hj := j0.isLt
      pointwise [Cert.FfnDownValue.resultH, Cert.FfnDownValue.resid, Cert.FfnDownValue.framedH, Cert.FfnDownValue.framedX]
      by_cases hp : 112 ≤ j0.val % 4224
      · simp only [dif_pos hp]
        refine (dif_pos ?_).trans ?_
        · intro a
          change Fin 3 at a
          fin_cases a
          · exact ⟨by show 0 ≤ _; omega, by show (j0.val / 4224 - 0) % (0 + 1) = 0; omega, by show (j0.val / 4224 - 0) / (0 + 1) < 4; omega⟩
          · exact ⟨by show 112 ≤ j0.val % 4224; omega, by show (j0.val % 4224 - 112) % (0 + 1) = 0; omega,
              by show (j0.val % 4224 - 112) / (0 + 1) < 4112; omega⟩
          · exact ⟨by show 0 ≤ _; omega, by show (j1.val - 0) % (0 + 1) = 0; omega, by show (j1.val - 0) / (0 + 1) < 2048; omega⟩
        rfl
      · simp only [dif_neg hp, zero_mul, Finset.sum_const_zero, add_zero]
        refine (dif_neg fun h => hp (h (1 : Fin 3)).1).trans ?_
        exact zero_f32
    · rw [Cert.FfnDownValue.final_n m c]
      funext j
      idx_vars j
      have hj := j0.isLt
      pointwise [Cert.FfnDownValue.resultN, Cert.FfnDownValue.normed, Cert.FfnDownValue.resid, Cert.FfnDownValue.framedH, Cert.FfnDownValue.framedX]
      by_cases hp : 112 ≤ j0.val % 4224
      · simp only [dif_pos hp]
        refine (dif_pos ?_).trans ?_
        · intro a
          change Fin 3 at a
          fin_cases a
          · exact ⟨by show 0 ≤ _; omega, by show (j0.val / 4224 - 0) % (0 + 1) = 0; omega, by show (j0.val / 4224 - 0) / (0 + 1) < 4; omega⟩
          · exact ⟨by show 112 ≤ j0.val % 4224; omega, by show (j0.val % 4224 - 112) % (0 + 1) = 0; omega,
              by show (j0.val % 4224 - 112) / (0 + 1) < 4112; omega⟩
          · exact ⟨by show 0 ≤ _; omega, by show (j1.val - 0) % (0 + 1) = 0; omega, by show (j1.val - 0) / (0 + 1) < 2048; omega⟩
        rfl
      · simp only [dif_neg hp, zero_mul, Finset.sum_const_zero, add_zero]
        refine (dif_neg fun h => hp (h (1 : Fin 3)).1).trans ?_
        exact zero_bf16

/-- The reference runs, leaves its arguments unchanged and has no counter to leave raised. -/
theorem frame_ref : Cert.quiescent_FfnDownRefIdeal (hFfnDownRefIdeal := Cert.FfnDownRefIdeal.Gen.facts) := fun m g _ =>
  (θ_run Cert.FfnDownRefIdeal.defs _ _).mono (fun r h => ⟨fun c => (h c).2.2, sem_eq_zero_of_no_sems (by decide) r.2⟩)
    (Cert.FfnDownRefIdeal.Value.run m g)

end Cert.FfnDownClaim

end
-- ==== Proof.RecOutValue.lean ====
module

public import proofs.«01_k».proof.Proof.Gen.RecOutIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RecOutValue
open Cert.RecOutIdeal Cert.RecOutIdeal.Gen

/-- Row `r` of the framed left operand: 112 rows of zeros before each batch's 4112 rows. -/
def framedX (x : FVec Ideal S4x4112x2048 .bf16) (r : ℕ) (k : Fin 2048) : EReal :=
  if hr : 112 ≤ r % 4224 ∧ r < 16896 then x (ix3 ⟨r / 4224, by omega⟩ ⟨r % 4224 - 112, by omega⟩ k) else 0

/-- Row `r` of the framed residual. -/
def framedH (h : FVec Ideal S4x4112x2048 .f32) (r : ℕ) (n : Fin 2048) : EReal :=
  if hr : 112 ≤ r % 4224 ∧ r < 16896 then h (ix3 ⟨r / 4224, by omega⟩ ⟨r % 4224 - 112, by omega⟩ n) else 0

/-- Framed row `r` of the residual with the projection added, column `n`. -/
def resid (x : FVec Ideal S4x4112x2048 .bf16) (h : FVec Ideal S4x4112x2048 .f32) (w : FVec Ideal S2x2048x2048 .f32)
    (r : ℕ) (n : Fin 2048) : EReal :=
  framedH h r n + ∑ k : Fin 2048, framedX x r k * w (ix3 0 k n)

/-- The same row, normalised by its root mean square and scaled by the gain. -/
def normed (x : FVec Ideal S4x4112x2048 .bf16) (h : FVec Ideal S4x4112x2048 .f32) (w : FVec Ideal S2x2048x2048 .f32)
    (gain : FVec Ideal S4x2048 .f32) (r : ℕ) (n : Fin 2048) : EReal :=
  resid x h w r n
    * Ideal.rsqrt (Ideal.div (∑ z : Fin 2048, resid x h w r z * resid x h w r z) (Ideal.ofBits FTy.f32 1157627904#32)
        + Ideal.ofBits FTy.f32 897988541#32)
    * gain (ix2 1 n)

/-- The first result as one function of the arguments. -/
def resultH (x : FVec Ideal S4x4112x2048 .bf16) (h : FVec Ideal S4x4112x2048 .f32) (w : FVec Ideal S2x2048x2048 .f32) :
    FVec Ideal S16896x2048 .f32 := fun i => resid x h w (i 0).val (i 1)

/-- The second result as one function of the arguments. -/
def resultN (x : FVec Ideal S4x4112x2048 .bf16) (h : FVec Ideal S4x4112x2048 .f32) (w : FVec Ideal S2x2048x2048 .f32)
    (gain : FVec Ideal S4x2048 .f32) : FVec Ideal S16896x2048 .bf16 := fun i => normed x h w gain (i 0).val (i 1)

/-- Where the blocks of grid point `t` lie. -/
theorem idx : ∀ t : Fin cfg0.N,
    win0_0.index t = ![t.val, 0]
    ∧ win0_1.index t = ![0, 0, 0]
    ∧ win0_2.index t = ![t.val, 0]
    ∧ win0_3.index t = ![0, 0]
    ∧ win0_4.index t = ![t.val, 0]
    ∧ win0_5.index t = ![t.val, 0] :=
  (by decide +kernel : ∀ t : Fin grid0.N, _)

variable (m : (ℓ : Loc nD τ sig) → Buf (Elt Ideal) ℓ)

theorem entry_x (c : Dev nD) (r : Fin 16896) (k : Fin 2048) :
    (V m c main_v2 : FVec Ideal S16896x2048 .bf16) (ix2 r k) = framedX (m ((c : Thread nD τ).loc main_arg0)) r.val k := by
  unfold framedX
  entry_read
  pointwise
  by_cases h : r.val % 4224 < 112
  · rw [dif_pos h, dif_neg (by omega)]
  · rw [dif_neg h, dif_pos (by omega)]

theorem blk_x (c : Dev nD) (t : Fin cfg0.N) (r : Fin 384) (k : Fin 2048) :
    (iblk m c 0 t : FVec Ideal S384x2048 .bf16) (ix2 r k) = framedX (m ((c : Thread nD τ).loc main_arg0)) (t.val * 384 + r.val) k := by
  have ht : t.val < 44 := lt_of_lt_of_eq t.isLt N_0
  rw [← entry_x m c ⟨t.val * 384 + r.val, by omega⟩ k]
  blk_ext [iblk, idx t]

theorem entry_h (c : Dev nD) (r : Fin 16896) (k : Fin 2048) :
    (V m c main_v6 : FVec Ideal S16896x2048 .f32) (ix2 r k) = framedH (m ((c : Thread nD τ).loc main_arg1)) r.val k := by
  unfold framedH
  entry_read
  pointwise
  by_cases h : r.val % 4224 < 112
  · rw [dif_pos h, dif_neg (by omega)]
  · rw [dif_neg h, dif_pos (by omega)]

theorem blk_h (c : Dev nD) (t : Fin cfg0.N) (r : Fin 384) (k : Fin 2048) :
    (iblk m c 2 t : FVec Ideal S384x2048 .f32) (ix2 r k) = framedH (m ((c : Thread nD τ).loc main_arg1)) (t.val * 384 + r.val) k := by
  have ht : t.val < 44 := lt_of_lt_of_eq t.isLt N_0
  rw [← entry_h m c ⟨t.val * 384 + r.val, by omega⟩ k]
  blk_ext [iblk, idx t]

/-- The weight's block is the layer's matrix. -/
theorem blk_w (c : Dev nD) (t : Fin cfg0.N) (k : Fin 2048) (n : Fin 2048) :
    (iblk m c 1 t : FVec Ideal S1x2048x2048 .bf16) (ix3 0 k n) = ((m ((c : Thread nD τ).loc main_arg2)) : FVec Ideal S2x2048x2048 .f32) (ix3 0 k n) := by
  have e : (iblk m c 1 t : FVec Ideal S1x2048x2048 .bf16) (ix3 0 k n) = (V m c main_v3 : FVec Ideal S2x2048x2048 .bf16) (ix3 0 k n) := by
    blk_ext [iblk, idx t]
  rw [e]
  entry_read
  pointwise

/-- The gain's block. -/
theorem blk_gain (c : Dev nD) (t : Fin cfg0.N) (n : Fin 2048) :
    (iblk m c 3 t : FVec Ideal S1x2048 .f32) (ix2 0 n) = ((m ((c : Thread nD τ).loc main_arg3)) : FVec Ideal S4x2048 .f32) (ix2 1 n) := by
  have e : (iblk m c 3 t : FVec Ideal S1x2048 .f32) (ix2 0 n) = (V m c main_v9 : FVec Ideal S1x2048 .f32) (ix2 0 n) := by
    blk_ext [iblk, idx t]
  rw [e]
  entry_read
  pointwise

/-- What the body stores of the residual at row `r`, column `n` of its block. -/
theorem point_h (c : Dev nD) (t : Fin cfg0.N) (r : Fin 384) (n : Fin 2048) :
    k0_pay1 (F := Ideal) (iblk m c 2 t) (iblk m c 0 t) (iblk m c 1 t) (ix2 r n)
      = resid (m ((c : Thread nD τ).loc main_arg0)) (m ((c : Thread nD τ).loc main_arg1)) (m ((c : Thread nD τ).loc main_arg2)) (t.val * 384 + r.val) n := by
  pointwise [k0_pay1, resid]
  simp only [blk_x m c t, blk_h m c t, blk_w m c t]

/-- What the body stores of the normalised row. -/
theorem point_n (c : Dev nD) (t : Fin cfg0.N) (r : Fin 384) (n : Fin 2048) :
    k0_pay2 (F := Ideal) (iblk m c 2 t) (iblk m c 0 t) (iblk m c 1 t) (iblk m c 3 t) (ix2 r n)
      = normed (m ((c : Thread nD τ).loc main_arg0)) (m ((c : Thread nD τ).loc main_arg1)) (m ((c : Thread nD τ).loc main_arg2)) (m ((c : Thread nD τ).loc main_arg3)) (t.val * 384 + r.val) n := by
  pointwise [k0_pay2, normed]
  simp only [point_h m c t, blk_gain m c t]

/-- The block that point `t` stores is the result at the block's place. -/
theorem emb_h (c : Dev nD) (t : Fin cfg0.N) (y : S384x2048.Idx) :
    k0_pay1 (F := Ideal) (iblk m c 2 t) (iblk m c 0 t) (iblk m c 1 t) y
      = resultH (m ((c : Thread nD τ).loc main_arg0)) (m ((c : Thread nD τ).loc main_arg1)) (m ((c : Thread nD τ).loc main_arg2)) (((View.whole main_v10_0).slice (win0_4.rect t)).emb y) := by
  idx_vars y
  have e0 : ((((View.whole main_v10_0).slice (win0_4.rect t)).emb (ix2 y0 y1)) 0 : ℕ) = t.val * 384 + y0.val := by
    blk_simp [idx t]
  have e1 : ((((View.whole main_v10_0).slice (win0_4.rect t)).emb (ix2 y0 y1)) 1) = y1 := Fin.ext (by
    blk_simp [idx t])
  unfold resultH
  rw [e0, e1]
  exact point_h m c t y0 y1

/-- After the run this result is `resultH` of the arguments. -/
theorem final_h (c : Dev nD) : (dats m 0 c).arrAt 4 (cfgs 0).N = resultH (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact emb_h m c t y

/-- The block that point `t` stores is the result at the block's place. -/
theorem emb_n (c : Dev nD) (t : Fin cfg0.N) (y : S384x2048.Idx) :
    k0_pay2 (F := Ideal) (iblk m c 2 t) (iblk m c 0 t) (iblk m c 1 t) (iblk m c 3 t) y
      = resultN (m ((c : Thread nD τ).loc main_arg0)) (m ((c : Thread nD τ).loc main_arg1)) (m ((c : Thread nD τ).loc main_arg2)) (m ((c : Thread nD τ).loc main_arg3)) (((View.whole main_v10_1).slice (win0_5.rect t)).emb y) := by
  idx_vars y
  have e0 : ((((View.whole main_v10_1).slice (win0_5.rect t)).emb (ix2 y0 y1)) 0 : ℕ) = t.val * 384 + y0.val := by
    blk_simp [idx t]
  have e1 : ((((View.whole main_v10_1).slice (win0_5.rect t)).emb (ix2 y0 y1)) 1) = y1 := Fin.ext (by
    blk_simp [idx t])
  unfold resultN
  rw [e0, e1]
  exact point_n m c t y0 y1

/-- After the run this result is `resultN` of the arguments. -/
theorem final_n (c : Dev nD) : (dats m 0 c).arrAt 5 (cfgs 0).N = resultN (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact emb_n m c t y

end Cert.RecOutValue

end
-- ==== Proof.RecOutClaim.lean ====
module

public import proofs.«01_k».proof.Defs
public import proofs.«01_k».proof.Proof.RecOutValue
public import proofs.«01_k».proof.Proof.Gen.RecOutRefIdeal.Run
public import proofs.«01_k».proof.Proof.Gen.RecOutRefIdeal.Read
public import Idealize.ShloMosaic.Adequacy
public import Idealize.ShloMosaic.Init

@[expose] public section

set_option maxRecDepth 16384

noncomputable section

namespace Cert.RecOutClaim

open Idealize.ShloMosaic Idealize.SL.Sem Idealize.ShloMosaic.TcCoe

/-- The integer zero of a padding is the number zero. -/
theorem zero_f32 : FloatOps.sitofp (F := Ideal) FTy.f32 0#32 = (0 : EReal) := by
  show (((0#32 : BitVec 32).toInt : ℝ) : EReal) = 0
  simp

theorem zero_bf16 : FloatOps.sitofp (F := Ideal) FTy.bf16 0#32 = (0 : EReal) := by
  show (((0#32 : BitVec 32).toInt : ℝ) : EReal) = 0
  simp

/-- The recurrence's output projection: kernel and reference have equal results over the extended reals. -/
theorem algebraic : Cert.algebraic_RecOutIdeal_RecOutRefIdeal (hRecOutIdeal := Cert.RecOutIdeal.Gen.facts)
    (hRecOutRefIdeal := Cert.RecOutRefIdeal.Gen.facts) := by
  pair_intro
  · run_from Cert.RecOutIdeal.Gen.run_main m g
  · run_from Cert.RecOutRefIdeal.Value.run m' g'
    · rw [Cert.RecOutValue.final_h m c]
      funext j
      idx_vars j
      have hj := j0.isLt
      pointwise [Cert.RecOutValue.resultH, Cert.RecOutValue.resid, Cert.RecOutValue.framedH, Cert.RecOutValue.framedX]
      by_cases hp : 112 ≤ j0.val % 4224
      · simp only [dif_pos hp]
        refine (dif_pos ?_).trans ?_
        · intro a
          change Fin 3 at a
          fin_cases a
          · exact ⟨by show 0 ≤ _; omega, by show (j0.val / 4224 - 0) % (0 + 1) = 0; omega, by show (j0.val / 4224 - 0) / (0 + 1) < 4; omega⟩
          · exact ⟨by show 112 ≤ j0.val % 4224; omega, by show (j0.val % 4224 - 112) % (0 + 1) = 0; omega,
              by show (j0.val % 4224 - 112) / (0 + 1) < 4112; omega⟩
          · exact ⟨by show 0 ≤ _; omega, by show (j1.val - 0) % (0 + 1) = 0; omega, by show (j1.val - 0) / (0 + 1) < 2048; omega⟩
        rfl
      · simp only [dif_neg hp, zero_mul, Finset.sum_const_zero, add_zero]
        refine (dif_neg fun h => hp (h (1 : Fin 3)).1).trans ?_
        exact zero_f32
    · rw [Cert.RecOutValue.final_n m c]
      funext j
      idx_vars j
      have hj := j0.isLt
      pointwise [Cert.RecOutValue.resultN, Cert.RecOutValue.normed, Cert.RecOutValue.resid, Cert.RecOutValue.framedH, Cert.RecOutValue.framedX]
      by_cases hp : 112 ≤ j0.val % 4224
      · simp only [dif_pos hp]
        refine (dif_pos ?_).trans ?_
        · intro a
          change Fin 3 at a
          fin_cases a
          · exact ⟨by show 0 ≤ _; omega, by show (j0.val / 4224 - 0) % (0 + 1) = 0; omega, by show (j0.val / 4224 - 0) / (0 + 1) < 4; omega⟩
          · exact ⟨by show 112 ≤ j0.val % 4224; omega, by show (j0.val % 4224 - 112) % (0 + 1) = 0; omega,
              by show (j0.val % 4224 - 112) / (0 + 1) < 4112; omega⟩
          · exact ⟨by show 0 ≤ _; omega, by show (j1.val - 0) % (0 + 1) = 0; omega, by show (j1.val - 0) / (0 + 1) < 2048; omega⟩
        rfl
      · simp only [dif_neg hp, zero_mul, Finset.sum_const_zero, add_zero]
        refine (dif_neg fun h => hp (h (1 : Fin 3)).1).trans ?_
        exact zero_bf16

/-- The reference runs, leaves its arguments unchanged and has no counter to leave raised. -/
theorem frame_ref : Cert.quiescent_RecOutRefIdeal (hRecOutRefIdeal := Cert.RecOutRefIdeal.Gen.facts) := fun m g _ =>
  (θ_run Cert.RecOutRefIdeal.defs _ _).mono (fun r h => ⟨fun c => (h c).2.2, sem_eq_zero_of_no_sems (by decide) r.2⟩)
    (Cert.RecOutRefIdeal.Value.run m g)

end Cert.RecOutClaim

end
-- ==== Proof.AttOutValue.lean ====
module

public import proofs.«01_k».proof.Proof.Gen.AttOutIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttOutValue
open Cert.AttOutIdeal Cert.AttOutIdeal.Gen

/-- Row `r` of the framed left operand: 112 rows of zeros before each batch's 4112 rows. -/
def framedX (x : FVec Ideal S4x4112x1024 .bf16) (r : ℕ) (k : Fin 1024) : EReal :=
  if hr : 112 ≤ r % 4224 ∧ r < 16896 then x (ix3 ⟨r / 4224, by omega⟩ ⟨r % 4224 - 112, by omega⟩ k) else 0

/-- Row `r` of the framed residual. -/
def framedH (h : FVec Ideal S4x4112x2048 .f32) (r : ℕ) (n : Fin 2048) : EReal :=
  if hr : 112 ≤ r % 4224 ∧ r < 16896 then h (ix3 ⟨r / 4224, by omega⟩ ⟨r % 4224 - 112, by omega⟩ n) else 0

/-- Framed row `r` of the residual with the projection added, column `n`. -/
def resid (x0 x1 : FVec Ideal S4x4112x1024 .bf16) (h : FVec Ideal S4x4112x2048 .f32) (w : FVec Ideal S2x2048x2048 .f32)
    (r : ℕ) (n : Fin 2048) : EReal :=
  framedH h r n + ∑ k : Fin 1024, framedX x0 r k * w (ix3 0 ⟨k.val, by omega⟩ n)
    + ∑ k : Fin 1024, framedX x1 r k * w (ix3 0 ⟨1024 + k.val, by omega⟩ n)

/-- The same row, normalised by its root mean square and scaled by the gain. -/
def normed (x0 x1 : FVec Ideal S4x4112x1024 .bf16) (h : FVec Ideal S4x4112x2048 .f32) (w : FVec Ideal S2x2048x2048 .f32)
    (gain : FVec Ideal S4x2048 .f32) (r : ℕ) (n : Fin 2048) : EReal :=
  resid x0 x1 h w r n
    * Ideal.rsqrt (Ideal.div (∑ z : Fin 2048, resid x0 x1 h w r z * resid x0 x1 h w r z) (Ideal.ofBits FTy.f32 1157627904#32)
        + Ideal.ofBits FTy.f32 897988541#32)
    * gain (ix2 0 n)

/-- The first result as one function of the arguments. -/
def resultH (x0 x1 : FVec Ideal S4x4112x1024 .bf16) (h : FVec Ideal S4x4112x2048 .f32) (w : FVec Ideal S2x2048x2048 .f32) :
    FVec Ideal S16896x2048 .f32 := fun i => resid x0 x1 h w (i 0).val (i 1)

/-- The second result as one function of the arguments. -/
def resultN (x0 x1 : FVec Ideal S4x4112x1024 .bf16) (h : FVec Ideal S4x4112x2048 .f32) (w : FVec Ideal S2x2048x2048 .f32)
    (gain : FVec Ideal S4x2048 .f32) : FVec Ideal S16896x2048 .bf16 := fun i => normed x0 x1 h w gain (i 0).val (i 1)

/-- Where the blocks of grid point `t` lie. -/
theorem idx : ∀ t : Fin cfg0.N,
    win0_0.index t = ![t.val, 0]
    ∧ win0_1.index t = ![t.val, 0]
    ∧ win0_2.index t = ![0, 0, 0]
    ∧ win0_3.index t = ![t.val, 0]
    ∧ win0_4.index t = ![0, 0]
    ∧ win0_5.index t = ![t.val, 0]
    ∧ win0_6.index t = ![t.val, 0] :=
  (by decide +kernel : ∀ t : Fin grid0.N, _)

variable (m : (ℓ : Loc nD τ sig) → Buf (Elt Ideal) ℓ)

theorem entry_x0 (c : Dev nD) (r : Fin 16896) (k : Fin 1024) :
    (V m c main_v2 : FVec Ideal S16896x1024 .bf16) (ix2 r k) = framedX (m ((c : Thread nD τ).loc main_arg0)) r.val k := by
  unfold framedX
  entry_read
  pointwise
  by_cases h : r.val % 4224 < 112
  · rw [dif_pos h, dif_neg (by omega)]
  · rw [dif_neg h, dif_pos (by omega)]

theorem blk_x0 (c : Dev nD) (t : Fin cfg0.N) (r : Fin 384) (k : Fin 1024) :
    (iblk m c 0 t : FVec Ideal S384x1024 .bf16) (ix2 r k) = framedX (m ((c : Thread nD τ).loc main_arg0)) (t.val * 384 + r.val) k := by
  have ht : t.val < 44 := lt_of_lt_of_eq t.isLt N_0
  rw [← entry_x0 m c ⟨t.val * 384 + r.val, by omega⟩ k]
  blk_ext [iblk, idx t]

theorem entry_x1 (c : Dev nD) (r : Fin 16896) (k : Fin 1024) :
    (V m c main_v5 : FVec Ideal S16896x1024 .bf16) (ix2 r k) = framedX (m ((c : Thread nD τ).loc main_arg1)) r.val k := by
  unfold framedX
  entry_read
  pointwise
  by_cases h : r.val % 4224 < 112
  · rw [dif_pos h, dif_neg (by omega)]
  · rw [dif_neg h, dif_pos (by omega)]

theorem blk_x1 (c : Dev nD) (t : Fin cfg0.N) (r : Fin 384) (k : Fin 1024) :
    (iblk m c 1 t : FVec Ideal S384x1024 .bf16) (ix2 r k) = framedX (m ((c : Thread nD τ).loc main_arg1)) (t.val * 384 + r.val) k := by
  have ht : t.val < 44 := lt_of_lt_of_eq t.isLt N_0
  rw [← entry_x1 m c ⟨t.val * 384 + r.val, by omega⟩ k]
  blk_ext [iblk, idx t]

theorem entry_h (c : Dev nD) (r : Fin 16896) (k : Fin 2048) :
    (V m c main_v9 : FVec Ideal S16896x2048 .f32) (ix2 r k) = framedH (m ((c : Thread nD τ).loc main_arg2)) r.val k := by
  unfold framedH
  entry_read
  pointwise
  by_cases h : r.val % 4224 < 112
  · rw [dif_pos h, dif_neg (by omega)]
  · rw [dif_neg h, dif_pos (by omega)]

theorem blk_h (c : Dev nD) (t : Fin cfg0.N) (r : Fin 384) (k : Fin 2048) :
    (iblk m c 3 t : FVec Ideal S384x2048 .f32) (ix2 r k) = framedH (m ((c : Thread nD τ).loc main_arg2)) (t.val * 384 + r.val) k := by
  have ht : t.val < 44 := lt_of_lt_of_eq t.isLt N_0
  rw [← entry_h m c ⟨t.val * 384 + r.val, by omega⟩ k]
  blk_ext [iblk, idx t]

/-- The weight's block is the layer's matrix. -/
theorem blk_w (c : Dev nD) (t : Fin cfg0.N) (k : Fin 2048) (n : Fin 2048) :
    (iblk m c 2 t : FVec Ideal S1x2048x2048 .bf16) (ix3 0 k n) = ((m ((c : Thread nD τ).loc main_arg3)) : FVec Ideal S2x2048x2048 .f32) (ix3 0 k n) := by
  have e : (iblk m c 2 t : FVec Ideal S1x2048x2048 .bf16) (ix3 0 k n) = (V m c main_v6 : FVec Ideal S2x2048x2048 .bf16) (ix3 0 k n) := by
    blk_ext [iblk, idx t]
  rw [e]
  entry_read
  pointwise

/-- The gain's block. -/
theorem blk_gain (c : Dev nD) (t : Fin cfg0.N) (n : Fin 2048) :
    (iblk m c 4 t : FVec Ideal S1x2048 .f32) (ix2 0 n) = ((m ((c : Thread nD τ).loc main_arg4)) : FVec Ideal S4x2048 .f32) (ix2 0 n) := by
  have e : (iblk m c 4 t : FVec Ideal S1x2048 .f32) (ix2 0 n) = (V m c main_v12 : FVec Ideal S1x2048 .f32) (ix2 0 n) := by
    blk_ext [iblk, idx t]
  rw [e]
  entry_read
  pointwise

/-- Half `o` of the rows of the weight's block. -/
theorem load_w (c : Dev nD) (t : Fin cfg0.N) (o : ℕ) (ho : o ≤ 1024)
    (inb : ∀ a, (![0, o, 0] : Fin 3 → ℕ) a + S1x1024x2048.size a ≤ S1x2048x2048.size a) (k : Fin 1024) (n : Fin 2048) :
    ((fun y => (iblk m c 2 t : FVec Ideal S1x2048x2048 .bf16) ((Rect.unit (s := S1x2048x2048) ![0, o, 0] S1x1024x2048.size inb).emb y)) :
        FVec Ideal S1x1024x2048 .bf16) (ix3 0 k n) = ((m ((c : Thread nD τ).loc main_arg3)) : FVec Ideal S2x2048x2048 .f32) (ix3 0 ⟨o + k.val, by omega⟩ n) := by
  rw [← blk_w m c t]
  refine congrArg (iblk m c 2 t : FVec Ideal S1x2048x2048 .bf16) ?_
  blk_ext

/-- What the body stores of the residual at row `r`, column `n` of its block. -/
theorem point_h (c : Dev nD) (t : Fin cfg0.N) (w0 w1 : FVec Ideal S1x1024x2048 .bf16)
    (h0 : ∀ k n, w0 (ix3 0 k n) = ((m ((c : Thread nD τ).loc main_arg3)) : FVec Ideal S2x2048x2048 .f32) (ix3 0 ⟨k.val, by omega⟩ n))
    (h1 : ∀ k n, w1 (ix3 0 k n) = ((m ((c : Thread nD τ).loc main_arg3)) : FVec Ideal S2x2048x2048 .f32) (ix3 0 ⟨1024 + k.val, by omega⟩ n))
    (r : Fin 384) (n : Fin 2048) :
    k0_pay1 (F := Ideal) (iblk m c 3 t) (iblk m c 0 t) w0 (iblk m c 1 t) w1 (ix2 r n)
      = resid (m ((c : Thread nD τ).loc main_arg0)) (m ((c : Thread nD τ).loc main_arg1)) (m ((c : Thread nD τ).loc main_arg2)) (m ((c : Thread nD τ).loc main_arg3)) (t.val * 384 + r.val) n := by
  pointwise [k0_pay1, resid]
  simp only [blk_x0 m c t, blk_x1 m c t, blk_h m c t, h0, h1]

/-- What the body stores of the normalised row. -/
theorem point_n (c : Dev nD) (t : Fin cfg0.N) (w0 w1 : FVec Ideal S1x1024x2048 .bf16)
    (h0 : ∀ k n, w0 (ix3 0 k n) = ((m ((c : Thread nD τ).loc main_arg3)) : FVec Ideal S2x2048x2048 .f32) (ix3 0 ⟨k.val, by omega⟩ n))
    (h1 : ∀ k n, w1 (ix3 0 k n) = ((m ((c : Thread nD τ).loc main_arg3)) : FVec Ideal S2x2048x2048 .f32) (ix3 0 ⟨1024 + k.val, by omega⟩ n))
    (r : Fin 384) (n : Fin 2048) :
    k0_pay2 (F := Ideal) (iblk m c 3 t) (iblk m c 0 t) w0 (iblk m c 1 t) w1 (iblk m c 4 t) (ix2 r n)
      = normed (m ((c : Thread nD τ).loc main_arg0)) (m ((c : Thread nD τ).loc main_arg1)) (m ((c : Thread nD τ).loc main_arg2)) (m ((c : Thread nD τ).loc main_arg3)) (m ((c : Thread nD τ).loc main_arg4)) (t.val * 384 + r.val) n := by
  pointwise [k0_pay2, normed]
  simp only [point_h m c t w0 w1 h0 h1, blk_gain m c t]

/-- The block that point `t` stores is the result at the block's place. -/
theorem emb_h (c : Dev nD) (t : Fin cfg0.N) (w0 w1 : FVec Ideal S1x1024x2048 .bf16)
    (h0 : ∀ k n, w0 (ix3 0 k n) = ((m ((c : Thread nD τ).loc main_arg3)) : FVec Ideal S2x2048x2048 .f32) (ix3 0 ⟨k.val, by omega⟩ n))
    (h1 : ∀ k n, w1 (ix3 0 k n) = ((m ((c : Thread nD τ).loc main_arg3)) : FVec Ideal S2x2048x2048 .f32) (ix3 0 ⟨1024 + k.val, by omega⟩ n))
    (y : S384x2048.Idx) :
    k0_pay1 (F := Ideal) (iblk m c 3 t) (iblk m c 0 t) w0 (iblk m c 1 t) w1 y
      = resultH (m ((c : Thread nD τ).loc main_arg0)) (m ((c : Thread nD τ).loc main_arg1)) (m ((c : Thread nD τ).loc main_arg2)) (m ((c : Thread nD τ).loc main_arg3)) (((View.whole main_v13_0).slice (win0_5.rect t)).emb y) := by
  idx_vars y
  have e0 : ((((View.whole main_v13_0).slice (win0_5.rect t)).emb (ix2 y0 y1)) 0 : ℕ) = t.val * 384 + y0.val := by
    blk_simp [idx t]
  have e1 : ((((View.whole main_v13_0).slice (win0_5.rect t)).emb (ix2 y0 y1)) 1) = y1 := Fin.ext (by
    blk_simp [idx t])
  unfold resultH
  rw [e0, e1]
  exact point_h m c t w0 w1 h0 h1 y0 y1

/-- After the run this result is `resultH` of the arguments. -/
theorem final_h (c : Dev nD) : (dats m 0 c).arrAt 5 (cfgs 0).N = resultH (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact emb_h m c t _ _ (fun k n => (load_w m c t 0 (by omega) _ k n).trans (by rw [show (⟨0 + k.val, _⟩ : Fin 2048) = ⟨k.val, by omega⟩ from Fin.ext (Nat.zero_add _)]))
    (fun k n => load_w m c t 1024 (by omega) _ k n) y

/-- The block that point `t` stores is the result at the block's place. -/
theorem emb_n (c : Dev nD) (t : Fin cfg0.N) (w0 w1 : FVec Ideal S1x1024x2048 .bf16)
    (h0 : ∀ k n, w0 (ix3 0 k n) = ((m ((c : Thread nD τ).loc main_arg3)) : FVec Ideal S2x2048x2048 .f32) (ix3 0 ⟨k.val, by omega⟩ n))
    (h1 : ∀ k n, w1 (ix3 0 k n) = ((m ((c : Thread nD τ).loc main_arg3)) : FVec Ideal S2x2048x2048 .f32) (ix3 0 ⟨1024 + k.val, by omega⟩ n))
    (y : S384x2048.Idx) :
    k0_pay2 (F := Ideal) (iblk m c 3 t) (iblk m c 0 t) w0 (iblk m c 1 t) w1 (iblk m c 4 t) y
      = resultN (m ((c : Thread nD τ).loc main_arg0)) (m ((c : Thread nD τ).loc main_arg1)) (m ((c : Thread nD τ).loc main_arg2)) (m ((c : Thread nD τ).loc main_arg3)) (m ((c : Thread nD τ).loc main_arg4)) (((View.whole main_v13_1).slice (win0_6.rect t)).emb y) := by
  idx_vars y
  have e0 : ((((View.whole main_v13_1).slice (win0_6.rect t)).emb (ix2 y0 y1)) 0 : ℕ) = t.val * 384 + y0.val := by
    blk_simp [idx t]
  have e1 : ((((View.whole main_v13_1).slice (win0_6.rect t)).emb (ix2 y0 y1)) 1) = y1 := Fin.ext (by
    blk_simp [idx t])
  unfold resultN
  rw [e0, e1]
  exact point_n m c t w0 w1 h0 h1 y0 y1

/-- After the run this result is `resultN` of the arguments. -/
theorem final_n (c : Dev nD) : (dats m 0 c).arrAt 6 (cfgs 0).N = resultN (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact emb_n m c t _ _ (fun k n => (load_w m c t 0 (by omega) _ k n).trans (by rw [show (⟨0 + k.val, _⟩ : Fin 2048) = ⟨k.val, by omega⟩ from Fin.ext (Nat.zero_add _)]))
    (fun k n => load_w m c t 1024 (by omega) _ k n) y

end Cert.AttOutValue

end
-- ==== Proof.AttOutClaim.lean ====
module

public import proofs.«01_k».proof.Defs
public import proofs.«01_k».proof.Proof.AttOutValue
public import proofs.«01_k».proof.Proof.Gen.AttOutRefIdeal.Run
public import proofs.«01_k».proof.Proof.Gen.AttOutRefIdeal.Read
public import Idealize.ShloMosaic.Adequacy
public import Idealize.ShloMosaic.Init

@[expose] public section

set_option maxRecDepth 16384

noncomputable section

namespace Cert.AttOutClaim

open Idealize.ShloMosaic Idealize.SL.Sem Idealize.ShloMosaic.TcCoe

/-- The integer zero of a padding is the number zero. -/
theorem zero_f32 : FloatOps.sitofp (F := Ideal) FTy.f32 0#32 = (0 : EReal) := by
  show (((0#32 : BitVec 32).toInt : ℝ) : EReal) = 0
  simp

theorem zero_bf16 : FloatOps.sitofp (F := Ideal) FTy.bf16 0#32 = (0 : EReal) := by
  show (((0#32 : BitVec 32).toInt : ℝ) : EReal) = 0
  simp

/-- The attention's output projection: kernel and reference have equal results over the extended reals. -/
theorem algebraic : Cert.algebraic_AttOutIdeal_AttOutRefIdeal (hAttOutIdeal := Cert.AttOutIdeal.Gen.facts)
    (hAttOutRefIdeal := Cert.AttOutRefIdeal.Gen.facts) := by
  pair_intro
  · run_from Cert.AttOutIdeal.Gen.run_main m g
  · run_from Cert.AttOutRefIdeal.Value.run m' g'
    · rw [Cert.AttOutValue.final_h m c]
      funext j
      idx_vars j
      have hj := j0.isLt
      pointwise [Cert.AttOutValue.resultH, Cert.AttOutValue.resid, Cert.AttOutValue.framedH, Cert.AttOutValue.framedX]
      by_cases hp : 112 ≤ j0.val % 4224
      · simp only [dif_pos hp]
        refine (dif_pos ?_).trans ?_
        · intro a
          change Fin 3 at a
          fin_cases a
          · exact ⟨by show 0 ≤ _; omega, by show (j0.val / 4224 - 0) % (0 + 1) = 0; omega, by show (j0.val / 4224 - 0) / (0 + 1) < 4; omega⟩
          · exact ⟨by show 112 ≤ j0.val % 4224; omega, by show (j0.val % 4224 - 112) % (0 + 1) = 0; omega,
              by show (j0.val % 4224 - 112) / (0 + 1) < 4112; omega⟩
          · exact ⟨by show 0 ≤ _; omega, by show (j1.val - 0) % (0 + 1) = 0; omega, by show (j1.val - 0) / (0 + 1) < 2048; omega⟩
        simp only [add_assoc]
      · simp only [dif_neg hp, zero_mul, Finset.sum_const_zero, add_zero]
        refine (dif_neg fun h => hp (h (1 : Fin 3)).1).trans ?_
        exact zero_f32
    · rw [Cert.AttOutValue.final_n m c]
      funext j
      idx_vars j
      have hj := j0.isLt
      pointwise [Cert.AttOutValue.resultN, Cert.AttOutValue.normed, Cert.AttOutValue.resid, Cert.AttOutValue.framedH, Cert.AttOutValue.framedX]
      by_cases hp : 112 ≤ j0.val % 4224
      · simp only [dif_pos hp]
        refine (dif_pos ?_).trans ?_
        · intro a
          change Fin 3 at a
          fin_cases a
          · exact ⟨by show 0 ≤ _; omega, by show (j0.val / 4224 - 0) % (0 + 1) = 0; omega, by show (j0.val / 4224 - 0) / (0 + 1) < 4; omega⟩
          · exact ⟨by show 112 ≤ j0.val % 4224; omega, by show (j0.val % 4224 - 112) % (0 + 1) = 0; omega,
              by show (j0.val % 4224 - 112) / (0 + 1) < 4112; omega⟩
          · exact ⟨by show 0 ≤ _; omega, by show (j1.val - 0) % (0 + 1) = 0; omega, by show (j1.val - 0) / (0 + 1) < 2048; omega⟩
        simp only [add_assoc]
      · simp only [dif_neg hp, zero_mul, Finset.sum_const_zero, add_zero]
        refine (dif_neg fun h => hp (h (1 : Fin 3)).1).trans ?_
        exact zero_bf16

/-- The reference runs, leaves its arguments unchanged and has no counter to leave raised. -/
theorem frame_ref : Cert.quiescent_AttOutRefIdeal (hAttOutRefIdeal := Cert.AttOutRefIdeal.Gen.facts) := fun m g _ =>
  (θ_run Cert.AttOutRefIdeal.defs _ _).mono (fun r h => ⟨fun c => (h c).2.2, sem_eq_zero_of_no_sems (by decide) r.2⟩)
    (Cert.AttOutRefIdeal.Value.run m g)

end Cert.AttOutClaim

end
-- ==== Proof.RecInMath.lean ====
module

public import Idealize.ShloMosaic.PureOps.Ideal

@[expose] public section

noncomputable section

namespace Cert.RecInMath

open Idealize.ShloMosaic

/-- The factor that turns natural logarithms into logarithms of base two. -/
def L : EReal := (((Real.log 2)⁻¹ : ℝ) : EReal)

theorem log2_pos : (0 : ℝ) < Real.log 2 := Real.log_pos (by norm_num)

theorem scale_pos : (0 : ℝ) < (Real.log 2)⁻¹ := inv_pos.mpr log2_pos

theorem bot_scale : (⊥ : EReal) * L = ⊥ := EReal.bot_mul_coe_of_pos scale_pos
theorem top_scale : (⊤ : EReal) * L = ⊤ := EReal.top_mul_coe_of_pos scale_pos

/-- A power of two of a scaled exponent is the exponential. -/
theorem exp2_scale (x : EReal) : Ideal.exp2 (x * L) = Ideal.exp x := by
  induction x with
  | bot => rw [bot_scale]; rfl
  | top => rw [top_scale]; rfl
  | coe r =>
    rw [L, ← EReal.coe_mul, Ideal.exp2_coe, Ideal.exp_coe]
    congr 1
    show (2 : ℝ) ^ (r * (Real.log 2)⁻¹) = Real.exp r
    rw [Real.rpow_def_of_pos (by norm_num)]
    congr 1
    field_simp [log2_pos.ne']

theorem add_scale (x y : EReal) : (x + y) * L = x * L + y * L := by
  induction x with
  | bot => rw [EReal.bot_add, bot_scale, EReal.bot_add]
  | top =>
    induction y with
    | bot => rw [EReal.add_bot, bot_scale, EReal.add_bot]
    | top => rw [EReal.top_add_top, top_scale, EReal.top_add_top]
    | coe s => rw [EReal.top_add_coe, top_scale, L, ← EReal.coe_mul, EReal.top_add_coe]
  | coe r =>
    induction y with
    | bot => rw [EReal.add_bot, bot_scale, EReal.add_bot]
    | top => rw [EReal.coe_add_top, top_scale, L, ← EReal.coe_mul, EReal.coe_add_top]
    | coe s => rw [L, ← EReal.coe_add, ← EReal.coe_mul, ← EReal.coe_mul, ← EReal.coe_mul, ← EReal.coe_add, add_mul]

theorem neg_scale (x : EReal) : (-x) * L = -(x * L) := EReal.neg_mul x L

theorem sub_scale (x y : EReal) : (x - y) * L = x * L - y * L := by
  rw [sub_eq_add_neg, add_scale, neg_scale, ← sub_eq_add_neg]

theorem scale_mono : Monotone fun x : EReal => x * L := fun x y h =>
  mul_le_mul_of_nonneg_right h (by rw [L]; exact_mod_cast scale_pos.le)

theorem min_scale (x y : EReal) : min x y * L = min (x * L) (y * L) := scale_mono.map_min
theorem max_scale (x y : EReal) : max x y * L = max (x * L) (y * L) := scale_mono.map_max

/-- The logarithm of the sigmoid, in the form without a positive exponent. -/
def logSig (f : EReal) : EReal := min f 0 - Ideal.log (1 + Ideal.exp (0 - max f (-f)))

/-- The logarithm of a sum of two exponentials. -/
def logAdd (x y : EReal) : EReal := max x y + Ideal.log (1 + Ideal.exp (min (x - y) (y - x)))

/-- The kernel's logarithm of base two of the forget gate is the natural one scaled. -/
theorem gate_scale (f a c : EReal) :
    max (a * L) (c * L + (min (f * L) 0 - Ideal.log (1 + Ideal.exp2 (0 - max (f * L) (-(f * L)))) * L))
      + Ideal.log (1 + Ideal.exp2 (min (a * L - (c * L + (min (f * L) 0 - Ideal.log (1 + Ideal.exp2 (0 - max (f * L) (-(f * L)))) * L)))
          ((c * L + (min (f * L) 0 - Ideal.log (1 + Ideal.exp2 (0 - max (f * L) (-(f * L)))) * L)) - a * L))) * L
      = logAdd a (c + logSig f) * L := by
  have e : c * L + (min (f * L) 0 - Ideal.log (1 + Ideal.exp2 (0 - max (f * L) (-(f * L)))) * L) = (c + logSig f) * L := by
    rw [add_scale, logSig, sub_scale, min_scale, zero_mul]
    congr 5
    rw [← exp2_scale, sub_scale, zero_mul, max_scale, neg_scale]
  rw [e]
  generalize c + logSig f = y
  rw [← sub_scale, ← sub_scale, ← min_scale, exp2_scale, logAdd, add_scale, max_scale]

/-- The smaller of a difference and its opposite is the negated magnitude. -/
theorem exp_gap (x y : EReal) : min (x - y) (y - x) = -max (x - y) (-(x - y)) := by
  induction x with
  | bot => induction y with
    | bot => rfl
    | top => rfl
    | coe s => simp [EReal.bot_sub]
  | top => induction y with
    | bot => simp
    | top => simp
    | coe s => simp
  | coe r => induction y with
    | bot => simp
    | top => simp
    | coe s =>
      have h : (s : EReal) - r = -((r : EReal) - s) := by
        rw [← EReal.coe_sub, ← EReal.coe_sub, ← EReal.coe_neg, neg_sub]
      rw [h]
      rcases le_total ((r : EReal) - s) (-((r : EReal) - s)) with q | q
      · rw [min_eq_left q, max_eq_right q, neg_neg]
      · rw [min_eq_right q, max_eq_left q]

/-- The logarithm of a sum of exponentials with the gap as a negated magnitude. -/
theorem logAdd_abs (x y : EReal) : max x y + Ideal.log1p (Ideal.exp (-max (x - y) (-(x - y)))) = logAdd x y := by
  rw [logAdd, exp_gap]; rfl

/-- The logarithm of one and an exponential of a nonpositive number is a real. -/
theorem log_real (x : EReal) (h : x ≤ 0) : ∃ r : ℝ, Ideal.log (1 + Ideal.exp x) = r := by
  induction x with
  | bot => exact ⟨Real.log 1, by
      rw [Ideal.exp_bot, add_zero]
      show (if (1 : ℝ) ≤ 0 then (⊥ : EReal) else _) = _
      rw [if_neg (by norm_num)]⟩
  | top => exact absurd h (by simp)
  | coe r => exact ⟨Real.log (1 + Real.exp r), by
      rw [Ideal.exp_coe, ← EReal.coe_one, ← EReal.coe_add, Ideal.log_coe, if_neg (not_le.mpr (by positivity))]⟩

/-- The negated softplus of the negated argument is the logarithm of the sigmoid. -/
theorem neg_softplus (f : EReal) : -(logAdd (-f) 0) = logSig f := by
  have e : min (-f - 0) (0 - -f) = 0 - max f (-f) := by
    rw [sub_zero, zero_sub, zero_sub, neg_neg]
    rcases le_total f (-f) with q | q
    · rw [min_eq_right q, max_eq_right q, neg_neg]
    · rw [min_eq_left q, max_eq_left q]
  have n : (0 : EReal) - max f (-f) ≤ 0 := by
    rw [← e, sub_zero, zero_sub, neg_neg]
    rcases le_total f 0 with q | q
    · exact (min_le_right _ _).trans q
    · exact (min_le_left _ _).trans (EReal.neg_le_zero.mpr q)
  have k : -max (-f) 0 = min f 0 := by
    rcases le_total f 0 with q | q
    · rw [min_eq_left q, max_eq_left (EReal.neg_nonneg.mpr q), neg_neg]
    · rw [min_eq_right q, max_eq_right (EReal.neg_le_zero.mpr q), neg_zero]
  obtain ⟨r, hr⟩ := log_real _ n
  rw [logAdd, e, logSig, hr, EReal.neg_add (Or.inr (EReal.coe_ne_top r)) (Or.inr (EReal.coe_ne_bot r)), k]

/-- The pattern of one. -/
theorem one_f32 : Ideal.ofBits FTy.f32 1065353216#32 = 1 := by
  simp [Ideal.ofBits, Ideal.ieee, -EReal.coe_mul]; norm_num

/-- The pattern of two. -/
theorem two_f32 : Ideal.ofBits FTy.f32 1073741824#32 = ((2 : ℝ) : EReal) := by
  simp [Ideal.ofBits, Ideal.ieee, -EReal.coe_mul]; norm_num

/-- The pattern of infinity. -/
theorem inf_f32 : Ideal.ofBits FTy.f32 2139095040#32 = ⊤ := by
  simp [Ideal.ofBits, Ideal.ieee]

/-- Division by the logarithm of two is the scaling. -/
theorem div_log2 (x : EReal) : Ideal.div x (Ideal.log ((2 : ℝ) : EReal)) = x * L := by
  rw [Ideal.log_coe, if_neg (by norm_num), Ideal.div_coe log2_pos.ne', one_div, L]

end Cert.RecInMath

end
-- ==== Proof.RecInValue.lean ====
module

public import proofs.«01_k».proof.Proof.RecInMath
public import proofs.«01_k».proof.Proof.Gen.RecInIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RecInValue
open Cert.RecInIdeal Cert.RecInIdeal.Gen Cert.RecInMath

/-- Row `r` of the framed activations: 112 rows of zeros before each batch's 4112 rows. -/
def framed (h : FVec Ideal S4x4112x2048 .bf16) (r : ℕ) (k : Fin 2048) : EReal :=
  if hr : 112 ≤ r % 4224 ∧ r < 16896 then h (ix3 ⟨r / 4224, by omega⟩ ⟨r % 4224 - 112, by omega⟩ k) else 0

/-- Framed row `r` of the projection by the recurrence's input weight, column `n`. -/
def proj (h : FVec Ideal S4x4112x2048 .bf16) (w : FVec Ideal S2x2048x8192 .f32) (r : ℕ) (n : Fin 8192) : EReal :=
  ∑ k : Fin 2048, framed h r k * w (ix3 1 k n)

/-- A number times its logistic. -/
def silu (z : EReal) : EReal := z * Ideal.logistic z

/-- The query result. -/
def resultQ (h : FVec Ideal S4x4112x2048 .bf16) (w : FVec Ideal S2x2048x8192 .f32) : FVec Ideal S16896x2048 .bf16 :=
  fun i => silu (proj h w (i 0).val ⟨(i 1).val, by have hi : (i 1).val < 2048 := (i 1).isLt; omega⟩)

/-- The forget gate's result, a logarithm of base two. -/
def gate (h : FVec Ideal S4x4112x2048 .bf16) (w : FVec Ideal S2x2048x8192 .f32) (lower : FVec Ideal S2048 .f32)
    (r : ℕ) (n : Fin 2048) : EReal :=
  logAdd (Ideal.log (lower (ix1 n))) (Ideal.log1p (-lower (ix1 n)) + logSig (proj h w r ⟨2048 + n.val, by omega⟩)) * L

/-- The forget gate's result. -/
def resultF (h : FVec Ideal S4x4112x2048 .bf16) (w : FVec Ideal S2x2048x8192 .f32) (lower : FVec Ideal S2048 .f32) :
    FVec Ideal S16896x2048 .f32 := fun i => gate h w lower (i 0).val (i 1)

/-- The input result. -/
def resultI (h : FVec Ideal S4x4112x2048 .bf16) (w : FVec Ideal S2x2048x8192 .f32) : FVec Ideal S16896x2048 .bf16 :=
  fun i => proj h w (i 0).val ⟨4096 + (i 1).val, by have hi : (i 1).val < 2048 := (i 1).isLt; omega⟩

/-- The output gate's result. -/
def resultG (h : FVec Ideal S4x4112x2048 .bf16) (w : FVec Ideal S2x2048x8192 .f32) : FVec Ideal S16896x2048 .bf16 :=
  fun i => silu (proj h w (i 0).val ⟨6144 + (i 1).val, by have hi : (i 1).val < 2048 := (i 1).isLt; omega⟩)

/-- Where the blocks of grid point `t` lie. -/
theorem idx : ∀ t : Fin cfg0.N,
    win0_0.index t = ![t.val / 4, 0]
    ∧ win0_1.index t = ![1, 0, 0 + t.val % 4]
    ∧ win0_2.index t = ![1, 0, 4 + t.val % 4]
    ∧ win0_3.index t = ![1, 0, 8 + t.val % 4]
    ∧ win0_4.index t = ![1, 0, 12 + t.val % 4]
    ∧ win0_5.index t = ![0, t.val % 4]
    ∧ win0_6.index t = ![0, t.val % 4]
    ∧ win0_7.index t = ![t.val / 4, t.val % 4]
    ∧ win0_8.index t = ![t.val / 4, t.val % 4]
    ∧ win0_9.index t = ![t.val / 4, t.val % 4]
    ∧ win0_10.index t = ![t.val / 4, t.val % 4] :=
  (by decide +kernel : ∀ t : Fin grid0.N, _)

variable (m : (ℓ : Loc nD τ sig) → Buf (Elt Ideal) ℓ)

theorem entry_x (c : Dev nD) (r : Fin 16896) (k : Fin 2048) :
    (V m c main_v2 : FVec Ideal S16896x2048 .bf16) (ix2 r k) = framed (m ((c : Thread nD τ).loc main_arg0)) r.val k := by
  unfold framed
  entry_read
  pointwise
  by_cases h : r.val % 4224 < 112
  · rw [dif_pos h, dif_neg (by omega)]
  · rw [dif_neg h, dif_pos (by omega)]

/-- The activations' block. -/
theorem blk_x (c : Dev nD) (t : Fin cfg0.N) (r : Fin 768) (k : Fin 2048) :
    (iblk m c 0 t : FVec Ideal S768x2048 .bf16) (ix2 r k) = framed (m ((c : Thread nD τ).loc main_arg0)) (t.val / 4 * 768 + r.val) k := by
  have ht : t.val < 88 := lt_of_lt_of_eq t.isLt N_0
  rw [← entry_x m c ⟨t.val / 4 * 768 + r.val, by omega⟩ k]
  blk_ext [iblk, idx t]

theorem entry_w (c : Dev nD) (k : Fin 2048) (n : Fin 8192) :
    (V m c main_v3 : FVec Ideal S2x2048x8192 .bf16) (ix3 1 k n) = ((m ((c : Thread nD τ).loc main_arg1)) : FVec Ideal S2x2048x8192 .f32) (ix3 1 k n) := by
  entry_read
  pointwise

/-- The weight's block of section 0. -/
theorem blk_wq (c : Dev nD) (t : Fin cfg0.N) (k : Fin 2048) (n : Fin 512) :
    (iblk m c 1 t : FVec Ideal S1x2048x512 .bf16) (ix3 0 k n)
      = ((m ((c : Thread nD τ).loc main_arg1)) : FVec Ideal S2x2048x8192 .f32) (ix3 1 k ⟨(t.val % 4 * 512 + n.val), by omega⟩) := by
  have ht : t.val < 88 := lt_of_lt_of_eq t.isLt N_0
  rw [← entry_w m c k ⟨(t.val % 4 * 512 + n.val), by omega⟩]
  blk_ext [iblk, idx t]

/-- The weight's block of section 1. -/
theorem blk_wf (c : Dev nD) (t : Fin cfg0.N) (k : Fin 2048) (n : Fin 512) :
    (iblk m c 2 t : FVec Ideal S1x2048x512 .bf16) (ix3 0 k n)
      = ((m ((c : Thread nD τ).loc main_arg1)) : FVec Ideal S2x2048x8192 .f32) (ix3 1 k ⟨2048 + (t.val % 4 * 512 + n.val), by omega⟩) := by
  have ht : t.val < 88 := lt_of_lt_of_eq t.isLt N_0
  rw [← entry_w m c k ⟨2048 + (t.val % 4 * 512 + n.val), by omega⟩]
  blk_ext [iblk, idx t]

/-- The weight's block of section 2. -/
theorem blk_wi (c : Dev nD) (t : Fin cfg0.N) (k : Fin 2048) (n : Fin 512) :
    (iblk m c 3 t : FVec Ideal S1x2048x512 .bf16) (ix3 0 k n)
      = ((m ((c : Thread nD τ).loc main_arg1)) : FVec Ideal S2x2048x8192 .f32) (ix3 1 k ⟨4096 + (t.val % 4 * 512 + n.val), by omega⟩) := by
  have ht : t.val < 88 := lt_of_lt_of_eq t.isLt N_0
  rw [← entry_w m c k ⟨4096 + (t.val % 4 * 512 + n.val), by omega⟩]
  blk_ext [iblk, idx t]

/-- The weight's block of section 3. -/
theorem blk_wg (c : Dev nD) (t : Fin cfg0.N) (k : Fin 2048) (n : Fin 512) :
    (iblk m c 4 t : FVec Ideal S1x2048x512 .bf16) (ix3 0 k n)
      = ((m ((c : Thread nD τ).loc main_arg1)) : FVec Ideal S2x2048x8192 .f32) (ix3 1 k ⟨6144 + (t.val % 4 * 512 + n.val), by omega⟩) := by
  have ht : t.val < 88 := lt_of_lt_of_eq t.isLt N_0
  rw [← entry_w m c k ⟨6144 + (t.val % 4 * 512 + n.val), by omega⟩]
  blk_ext [iblk, idx t]

/-- The block of a row of the gate's constants. -/
theorem blk_a (c : Dev nD) (t : Fin cfg0.N) (n : Fin 512) :
    (iblk m c 5 t : FVec Ideal S1x512 .f32) (ix2 0 n)
      = Ideal.log (((m ((c : Thread nD τ).loc main_arg2)) : FVec Ideal S2048 .f32) (ix1 ⟨t.val % 4 * 512 + n.val, by omega⟩)) := by
  have ht : t.val < 88 := lt_of_lt_of_eq t.isLt N_0
  have e : (iblk m c 5 t : FVec Ideal S1x512 .f32) (ix2 0 n)
      = (V m c main_v7 : FVec Ideal S1x2048 .f32) (ix2 0 ⟨t.val % 4 * 512 + n.val, by omega⟩) := by
    blk_ext [iblk, idx t]
  rw [e]
  entry_read
  pointwise

/-- The block of a row of the gate's constants. -/
theorem blk_c (c : Dev nD) (t : Fin cfg0.N) (n : Fin 512) :
    (iblk m c 6 t : FVec Ideal S1x512 .f32) (ix2 0 n)
      = Ideal.log1p (Neg.neg (α := EReal) (((m ((c : Thread nD τ).loc main_arg2)) : FVec Ideal S2048 .f32) (ix1 ⟨t.val % 4 * 512 + n.val, by omega⟩))) := by
  have ht : t.val < 88 := lt_of_lt_of_eq t.isLt N_0
  have e : (iblk m c 6 t : FVec Ideal S1x512 .f32) (ix2 0 n)
      = (V m c main_v8 : FVec Ideal S1x2048 .f32) (ix2 0 ⟨t.val % 4 * 512 + n.val, by omega⟩) := by
    blk_ext [iblk, idx t]
  rw [e]
  entry_read
  pointwise

/-- The kernel's form of a number times its logistic. -/
theorem silu_eq (z : EReal) : z * Ideal.div 1 (1 + Ideal.exp (0 - z)) = silu z := by
  rw [silu, Ideal.logistic, zero_sub]

/-- The named constant is the factor between the two logarithms. -/
theorem named_log2e : Named.named (F := Ideal) κ "log2e" (φ := .f32) 0x3FB8AA3B#32 = L :=
  IdealRules.named_const.ideal_named_scalar _ _ _ _ rfl

/-- What the body stores of section 0 at row `r`, column `n` of its block. -/
theorem point_q (c : Dev nD) (t : Fin cfg0.N) (r : Fin 768) (n : Fin 512) :
    k0_pay3 (F := Ideal) (iblk m c 0 t) (iblk m c 1 t) (ix2 r n)
      = silu (proj (m ((c : Thread nD τ).loc main_arg0)) (m ((c : Thread nD τ).loc main_arg1)) (t.val / 4 * 768 + r.val) ⟨(t.val % 4 * 512 + n.val), by omega⟩) := by
  pointwise [k0_pay3, k0_pay2]
  simp only [blk_x m c t, blk_wq m c t, one_f32]
  exact silu_eq _

/-- What the body stores of section 1 at row `r`, column `n` of its block. -/
theorem point_f (c : Dev nD) (t : Fin cfg0.N) (r : Fin 768) (n : Fin 512) :
    k0_pay6 (F := Ideal) (k0_pay4 (iblk m c 0 t) (iblk m c 2 t)) (k0_pay5 (iblk m c 6 t)) (Named.named κ "log2e" 0x3FB8AA3B#32) (iblk m c 5 t) (ix2 r n)
      = gate (m ((c : Thread nD τ).loc main_arg0)) (m ((c : Thread nD τ).loc main_arg1)) (m ((c : Thread nD τ).loc main_arg2)) (t.val / 4 * 768 + r.val) ⟨(t.val % 4 * 512 + n.val), by omega⟩ := by
  pointwise [k0_pay6, k0_pay4, k0_pay5, k0_pay2]
  simp only [blk_x m c t, blk_wf m c t, blk_a m c t, blk_c m c t, one_f32, named_log2e]
  exact gate_scale _ _ _

/-- What the body stores of section 2 at row `r`, column `n` of its block. -/
theorem point_i (c : Dev nD) (t : Fin cfg0.N) (r : Fin 768) (n : Fin 512) :
    k0_pay7 (F := Ideal) (k0_pay2 (iblk m c 0 t)) (iblk m c 3 t) (ix2 r n)
      = proj (m ((c : Thread nD τ).loc main_arg0)) (m ((c : Thread nD τ).loc main_arg1)) (t.val / 4 * 768 + r.val) ⟨4096 + (t.val % 4 * 512 + n.val), by omega⟩ := by
  pointwise [k0_pay7, k0_pay2]
  simp only [blk_x m c t, blk_wi m c t]
  rfl

/-- What the body stores of section 3 at row `r`, column `n` of its block. -/
theorem point_g (c : Dev nD) (t : Fin cfg0.N) (r : Fin 768) (n : Fin 512) :
    k0_pay1 (F := Ideal) (k0_pay8 (k0_pay2 (iblk m c 0 t)) (iblk m c 4 t)) (k0_pay9 (k0_pay2 (iblk m c 0 t)) (iblk m c 4 t)) (ix2 r n)
      = silu (proj (m ((c : Thread nD τ).loc main_arg0)) (m ((c : Thread nD τ).loc main_arg1)) (t.val / 4 * 768 + r.val) ⟨6144 + (t.val % 4 * 512 + n.val), by omega⟩) := by
  pointwise [k0_pay1, k0_pay8, k0_pay9, k0_pay2]
  simp only [blk_x m c t, blk_wg m c t, one_f32]
  exact silu_eq _

/-- The activations' block as the later sections read it. -/
theorem read_x (x0 : Vec Ideal S768x2048 .bf16) (x1 x2 x3 x4 : Vec Ideal S1x2048x512 .bf16) (x5 x6 : Vec Ideal S1x512 .f32) :
    k0_pay10 (F := Ideal) x0 x1 x2 x3 x4 x5 x6 = k0_pay2 x0 :=
  congrArg k0_pay2 (View.ld_unit_lit _ _ (by decide))

/-- The block that point `t` stores is the result at the block's place. -/
theorem emb_q (c : Dev nD) (t : Fin cfg0.N) (y : S768x512.Idx) :
    k0_pay3 (F := Ideal) (iblk m c 0 t) (iblk m c 1 t) y
      = resultQ (m ((c : Thread nD τ).loc main_arg0)) (m ((c : Thread nD τ).loc main_arg1)) (((View.whole main_v9_0).slice (win0_7.rect t)).emb y) := by
  idx_vars y
  have ht : t.val < 88 := lt_of_lt_of_eq t.isLt N_0
  have e : (((View.whole main_v9_0).slice (win0_7.rect t)).emb (ix2 y0 y1) : S16896x2048.Idx)
      = ix2 ⟨t.val / 4 * 768 + y0.val, by omega⟩ ⟨t.val % 4 * 512 + y1.val, by omega⟩ := by
    blk_ext [idx t]
  rw [e]
  exact point_q m c t y0 y1

/-- After the run this result is `resultQ` of the arguments. -/
theorem final_q (c : Dev nD) : (dats m 0 c).arrAt 7 (cfgs 0).N = resultQ (m ((c : Thread nD τ).loc main_arg0)) (m ((c : Thread nD τ).loc main_arg1)) := by
  refine (dats m 0 c).arrAt_eq_of_covers 7 _ (by decide +kernel) fun t _ y => ?_
  blk_simp
  rw [after0_7]; frame_out
  exact emb_q m c t y

/-- The block that point `t` stores is the result at the block's place. -/
theorem emb_f (c : Dev nD) (t : Fin cfg0.N) (y : S768x512.Idx) :
    k0_pay6 (F := Ideal) (k0_pay4 (iblk m c 0 t) (iblk m c 2 t)) (k0_pay5 (iblk m c 6 t)) (Named.named κ "log2e" 0x3FB8AA3B#32) (iblk m c 5 t) y
      = resultF (m ((c : Thread nD τ).loc main_arg0)) (m ((c : Thread nD τ).loc main_arg1)) (m ((c : Thread nD τ).loc main_arg2)) (((View.whole main_v9_1).slice (win0_8.rect t)).emb y) := by
  idx_vars y
  have ht : t.val < 88 := lt_of_lt_of_eq t.isLt N_0
  have e : (((View.whole main_v9_1).slice (win0_8.rect t)).emb (ix2 y0 y1) : S16896x2048.Idx)
      = ix2 ⟨t.val / 4 * 768 + y0.val, by omega⟩ ⟨t.val % 4 * 512 + y1.val, by omega⟩ := by
    blk_ext [idx t]
  rw [e]
  exact point_f m c t y0 y1

/-- After the run this result is `resultF` of the arguments. -/
theorem final_f (c : Dev nD) : (dats m 0 c).arrAt 8 (cfgs 0).N = resultF (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]; frame_out
  exact emb_f m c t y

/-- The block that point `t` stores is the result at the block's place. -/
theorem emb_i (c : Dev nD) (t : Fin cfg0.N) (y : S768x512.Idx) :
    k0_pay7 (F := Ideal) (k0_pay2 (iblk m c 0 t)) (iblk m c 3 t) y
      = resultI (m ((c : Thread nD τ).loc main_arg0)) (m ((c : Thread nD τ).loc main_arg1)) (((View.whole main_v9_2).slice (win0_9.rect t)).emb y) := by
  idx_vars y
  have ht : t.val < 88 := lt_of_lt_of_eq t.isLt N_0
  have e : (((View.whole main_v9_2).slice (win0_9.rect t)).emb (ix2 y0 y1) : S16896x2048.Idx)
      = ix2 ⟨t.val / 4 * 768 + y0.val, by omega⟩ ⟨t.val % 4 * 512 + y1.val, by omega⟩ := by
    blk_ext [idx t]
  rw [e]
  exact point_i m c t y0 y1

/-- After the run this result is `resultI` of the arguments. -/
theorem final_i (c : Dev nD) : (dats m 0 c).arrAt 9 (cfgs 0).N = resultI (m ((c : Thread nD τ).loc main_arg0)) (m ((c : Thread nD τ).loc main_arg1)) := by
  refine (dats m 0 c).arrAt_eq_of_covers 9 _ (by decide +kernel) fun t _ y => ?_
  blk_simp
  rw [after0_9]; frame_out
  rw [read_x]
  exact emb_i m c t y

/-- The block that point `t` stores is the result at the block's place. -/
theorem emb_g (c : Dev nD) (t : Fin cfg0.N) (y : S768x512.Idx) :
    k0_pay1 (F := Ideal) (k0_pay8 (k0_pay2 (iblk m c 0 t)) (iblk m c 4 t)) (k0_pay9 (k0_pay2 (iblk m c 0 t)) (iblk m c 4 t)) y
      = resultG (m ((c : Thread nD τ).loc main_arg0)) (m ((c : Thread nD τ).loc main_arg1)) (((View.whole main_v9_3).slice (win0_10.rect t)).emb y) := by
  idx_vars y
  have ht : t.val < 88 := lt_of_lt_of_eq t.isLt N_0
  have e : (((View.whole main_v9_3).slice (win0_10.rect t)).emb (ix2 y0 y1) : S16896x2048.Idx)
      = ix2 ⟨t.val / 4 * 768 + y0.val, by omega⟩ ⟨t.val % 4 * 512 + y1.val, by omega⟩ := by
    blk_ext [idx t]
  rw [e]
  exact point_g m c t y0 y1

/-- After the run this result is `resultG` of the arguments. -/
theorem final_g (c : Dev nD) : (dats m 0 c).arrAt 10 (cfgs 0).N = resultG (m ((c : Thread nD τ).loc main_arg0)) (m ((c : Thread nD τ).loc main_arg1)) := by
  refine (dats m 0 c).arrAt_eq_of_covers 10 _ (by decide +kernel) fun t _ y => ?_
  blk_simp
  rw [after0_10]; frame_out
  rw [read_x]
  exact emb_g m c t y

end Cert.RecInValue

end
-- ==== Proof.RecInClaim.lean ====
module

public import proofs.«01_k».proof.Defs
public import proofs.«01_k».proof.Proof.RecInValue
public import proofs.«01_k».proof.Proof.Gen.RecInRefIdeal.Run
public import proofs.«01_k».proof.Proof.Gen.RecInRefIdeal.Read
public import Idealize.ShloMosaic.Adequacy
public import Idealize.ShloMosaic.Init

@[expose] public section

set_option maxRecDepth 16384

noncomputable section

namespace Cert.RecInClaim

open Idealize.ShloMosaic Idealize.SL.Sem Idealize.ShloMosaic.TcCoe

/-- The integer zero of a padding is the number zero. -/
theorem zero_f32 : FloatOps.sitofp (F := Ideal) FTy.f32 0#32 = (0 : EReal) := by
  show (((0#32 : BitVec 32).toInt : ℝ) : EReal) = 0
  simp

/-- A gate spelt with a quotient, at a number equal to the projection. -/
theorem silu_of_eq {a b : EReal} (h : a = b) : a * Ideal.div 1 (1 + Ideal.exp (-a)) = Cert.RecInValue.silu b := by
  rw [h]; rfl

/-- The magnitude as a maximum. -/
theorem absf_eq (x : EReal) : FloatOps.absf (F := Ideal) (φ := FTy.f32) x = max x (-x) := rfl

open Cert.RecInMath in
/-- The reference's forget gate, at a number equal to the projection. -/
theorem gate_of_eq {f b a c : EReal} (h : f = b) :
    Ideal.div (max a (c + -(max (-f) 0 + Ideal.log1p (Ideal.exp (-max (-f) (- -f)))))
        + Ideal.log1p (Ideal.exp (-max (a - (c + -(max (-f) 0 + Ideal.log1p (Ideal.exp (-max (-f) (- -f))))))
            (-(a - (c + -(max (-f) 0 + Ideal.log1p (Ideal.exp (-max (-f) (- -f))))))))))
      (Ideal.log (Ideal.ofBits FTy.f32 1073741824#32)) = logAdd a (c + logSig b) * L := by
  have e : -(max (-f) 0 + Ideal.log1p (Ideal.exp (-max (-f) (- -f)))) = logSig b := by
    rw [← h, ← neg_softplus, ← logAdd_abs, sub_zero]
  rw [e, logAdd_abs, two_f32, div_log2]

set_option maxHeartbeats 4000000 in
/-- The recurrence's input projection: kernel and reference have equal results over the extended reals. -/
theorem algebraic : Cert.algebraic_RecInIdeal_RecInRefIdeal (hRecInIdeal := Cert.RecInIdeal.Gen.facts)
    (hRecInRefIdeal := Cert.RecInRefIdeal.Gen.facts) := by
  pair_intro
  · run_from Cert.RecInIdeal.Gen.run_main m g
  · run_from Cert.RecInRefIdeal.Value.run m' g'
    · rw [Cert.RecInValue.final_q m c]
      funext j
      idx_vars j
      have hj := j0.isLt
      pointwise [Cert.RecInValue.resultQ]
      refine silu_of_eq ?_
      unfold Cert.RecInValue.proj Cert.RecInValue.framed
      refine Finset.sum_congr rfl fun x _ => congrArg (· * _) ?_
      by_cases hp : 112 ≤ j0.val % 4224
      · rw [dif_pos (And.intro hp hj)]
        refine dif_pos ?_
        intro a
        change Fin 3 at a
        fin_cases a
        · exact ⟨by show 0 ≤ _; omega, by show (j0.val / 4224 - 0) % (0 + 1) = 0; omega, by show (j0.val / 4224 - 0) / (0 + 1) < 4; omega⟩
        · exact ⟨by show 112 ≤ j0.val % 4224; omega, by show (j0.val % 4224 - 112) % (0 + 1) = 0; omega,
            by show (j0.val % 4224 - 112) / (0 + 1) < 4112; omega⟩
        · exact ⟨by show 0 ≤ _; omega, by show (x.val - 0) % (0 + 1) = 0; omega, by show (x.val - 0) / (0 + 1) < 2048; omega⟩
      · rw [dif_neg fun h : 112 ≤ j0.val % 4224 ∧ j0.val < 16896 => hp h.1]
        exact (dif_neg fun h => hp (h (1 : Fin 3)).1).trans zero_f32
    · rw [Cert.RecInValue.final_f m c]
      funext j
      idx_vars j
      have hj := j0.isLt
      unfold Cert.RecInRefIdeal.Value.res_main_v36
      simp only [hagree c]
      pointwise [Cert.RecInValue.resultF, Cert.RecInValue.gate]
      simp only [ne_eq, not_true_eq_false, if_false, Bool.false_eq_true, absf_eq]
      refine gate_of_eq (b := Cert.RecInValue.proj _ _ _ _) ?_
      unfold Cert.RecInValue.proj Cert.RecInValue.framed
      refine Finset.sum_congr rfl fun x _ => congrArg (· * _) ?_
      by_cases hp : 112 ≤ j0.val % 4224
      · rw [dif_pos (And.intro hp hj)]
        refine dif_pos ?_
        intro a
        change Fin 3 at a
        fin_cases a
        · exact ⟨by show 0 ≤ _; omega, by show (j0.val / 4224 - 0) % (0 + 1) = 0; omega, by show (j0.val / 4224 - 0) / (0 + 1) < 4; omega⟩
        · exact ⟨by show 112 ≤ j0.val % 4224; omega, by show (j0.val % 4224 - 112) % (0 + 1) = 0; omega,
            by show (j0.val % 4224 - 112) / (0 + 1) < 4112; omega⟩
        · exact ⟨by show 0 ≤ _; omega, by show (x.val - 0) % (0 + 1) = 0; omega, by show (x.val - 0) / (0 + 1) < 2048; omega⟩
      · rw [dif_neg fun h : 112 ≤ j0.val % 4224 ∧ j0.val < 16896 => hp h.1]
        exact (dif_neg fun h => hp (h (1 : Fin 3)).1).trans zero_f32
    · rw [Cert.RecInValue.final_i m c]
      funext j
      idx_vars j
      have hj := j0.isLt
      pointwise [Cert.RecInValue.resultI]
      unfold Cert.RecInValue.proj Cert.RecInValue.framed
      refine Finset.sum_congr rfl fun x _ => congrArg (· * _) ?_
      by_cases hp : 112 ≤ j0.val % 4224
      · rw [dif_pos (And.intro hp hj)]
        refine dif_pos ?_
        intro a
        change Fin 3 at a
        fin_cases a
        · exact ⟨by show 0 ≤ _; omega, by show (j0.val / 4224 - 0) % (0 + 1) = 0; omega, by show (j0.val / 4224 - 0) / (0 + 1) < 4; omega⟩
        · exact ⟨by show 112 ≤ j0.val % 4224; omega, by show (j0.val % 4224 - 112) % (0 + 1) = 0; omega,
            by show (j0.val % 4224 - 112) / (0 + 1) < 4112; omega⟩
        · exact ⟨by show 0 ≤ _; omega, by show (x.val - 0) % (0 + 1) = 0; omega, by show (x.val - 0) / (0 + 1) < 2048; omega⟩
      · rw [dif_neg fun h : 112 ≤ j0.val % 4224 ∧ j0.val < 16896 => hp h.1]
        exact (dif_neg fun h => hp (h (1 : Fin 3)).1).trans zero_f32
    · rw [Cert.RecInValue.final_g m c]
      funext j
      idx_vars j
      have hj := j0.isLt
      pointwise [Cert.RecInValue.resultG]
      refine silu_of_eq ?_
      unfold Cert.RecInValue.proj Cert.RecInValue.framed
      refine Finset.sum_congr rfl fun x _ => congrArg (· * _) ?_
      by_cases hp : 112 ≤ j0.val % 4224
      · rw [dif_pos (And.intro hp hj)]
        refine dif_pos ?_
        intro a
        change Fin 3 at a
        fin_cases a
        · exact ⟨by show 0 ≤ _; omega, by show (j0.val / 4224 - 0) % (0 + 1) = 0; omega, by show (j0.val / 4224 - 0) / (0 + 1) < 4; omega⟩
        · exact ⟨by show 112 ≤ j0.val % 4224; omega, by show (j0.val % 4224 - 112) % (0 + 1) = 0; omega,
            by show (j0.val % 4224 - 112) / (0 + 1) < 4112; omega⟩
        · exact ⟨by show 0 ≤ _; omega, by show (x.val - 0) % (0 + 1) = 0; omega, by show (x.val - 0) / (0 + 1) < 2048; omega⟩
      · rw [dif_neg fun h : 112 ≤ j0.val % 4224 ∧ j0.val < 16896 => hp h.1]
        exact (dif_neg fun h => hp (h (1 : Fin 3)).1).trans zero_f32

/-- The reference runs, leaves its arguments unchanged and has no counter to leave raised. -/
theorem frame_ref : Cert.quiescent_RecInRefIdeal (hRecInRefIdeal := Cert.RecInRefIdeal.Gen.facts) := fun m g _ =>
  (θ_run Cert.RecInRefIdeal.defs _ _).mono (fun r h => ⟨fun c => (h c).2.2.2.2, sem_eq_zero_of_no_sems (by decide) r.2⟩)
    (Cert.RecInRefIdeal.Value.run m g)

end Cert.RecInClaim

end
-- ==== Proof.AttInValue.lean ====
module

public import proofs.«01_k».proof.Proof.Gen.AttInIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttInValue
open Cert.AttInIdeal Cert.AttInIdeal.Gen

/-- Row `r` of the framed activations: 112 rows of zeros before each batch's 4112 rows. -/
def framed (h : FVec Ideal S4x4112x2048 .bf16) (r : ℕ) (k : Fin 2048) : EReal :=
  if hr : 112 ≤ r % 4224 ∧ r < 16896 then h (ix3 ⟨r / 4224, by omega⟩ ⟨r % 4224 - 112, by omega⟩ k) else 0

/-- The widened weight: the layer's columns, the rotary columns a lane group further on between zeros, and after them the
    same columns rotated by a quarter turn, whose first half is negated. -/
def wide (w : FVec Ideal S2x2048x2336 .f32) (k : Fin 2048) (n : Fin 2560) : EReal :=
  if h0 : n.val < 2304 then w (ix3 0 k ⟨n.val, by omega⟩)
  else if h1 : n.val < 2368 then 0
  else if h2 : n.val < 2400 then w (ix3 0 k ⟨n.val - 64, by omega⟩)
  else if h3 : n.val < 2496 then 0
  else if h4 : n.val < 2512 then Neg.neg (α := EReal) (w (ix3 0 k ⟨n.val - 176, by omega⟩))
  else if h5 : n.val < 2528 then w (ix3 0 k ⟨n.val - 208, by omega⟩)
  else 0

/-- The projection by the widened weight as one function of the arguments. -/
def result (h : FVec Ideal S4x4112x2048 .bf16) (w : FVec Ideal S2x2048x2336 .f32) : FVec Ideal S16896x2560 .bf16 :=
  fun i => ∑ k : Fin 2048, framed h (i 0).val k * wide w k (i 1)

/-- Where the blocks of grid point `t` lie. -/
theorem idx : ∀ t : Fin cfg0.N,
    win0_0.index t = ![t.val / 2, 0]
    ∧ win0_1.index t = ![0, t.val % 2]
    ∧ win0_2.index t = ![t.val / 2, t.val % 2] :=
  (by decide +kernel : ∀ t : Fin grid0.N, _)

variable (m : (ℓ : Loc nD τ sig) → Buf (Elt Ideal) ℓ)

theorem entry_x (c : Dev nD) (r : Fin 16896) (k : Fin 2048) :
    (V m c main_v2 : FVec Ideal S16896x2048 .bf16) (ix2 r k) = framed (m ((c : Thread nD τ).loc main_arg0)) r.val k := by
  unfold framed
  entry_read
  pointwise
  by_cases h : r.val % 4224 < 112
  · rw [dif_pos h, dif_neg (by omega)]
  · rw [dif_neg h, dif_pos (by omega)]

/-- The activations' block. -/
theorem blk_x (c : Dev nD) (t : Fin cfg0.N) (r : Fin 1408) (k : Fin 2048) :
    (iblk m c 0 t : FVec Ideal S1408x2048 .bf16) (ix2 r k) = framed (m ((c : Thread nD τ).loc main_arg0)) (t.val / 2 * 1408 + r.val) k := by
  have ht : t.val < 24 := lt_of_lt_of_eq t.isLt N_0
  rw [← entry_x m c ⟨t.val / 2 * 1408 + r.val, by omega⟩ k]
  blk_ext [iblk, idx t]

/-- The layer's widened weight of its matrix. -/
def widened (w : FVec Ideal S2048x2336 .f32) : FVec Ideal S2048x2560 .f32 :=
  let r : FVec Ideal S2048x32 .f32 := extractStridedSlice S2048x32 ![0, 2304] w slices_S2048x2336_S2048x32_0_2304
  let a : FVec Ideal S2048x16 .f32 := Host.negf (extractStridedSlice S2048x16 ![0, 16] r slices_S2048x32_S2048x16_0_16)
  let b : FVec Ideal S2048x16 .f32 := extractStridedSlice S2048x16 ![0, 0] r slices_S2048x32_S2048x16_0_0
  let rot : FVec Ideal S2048x32 .f32 := concatenate S2048x32 1 [⟨S2048x16, a⟩, ⟨S2048x16, b⟩] concatenates_S2048x16_S2048x16_S2048x32_d1
  let left : FVec Ideal S2048x64 .f32 := broadcastInDim S2048x64 ![] bcast_S_S2048x64 (constant S_ .f32 0x00000000#32)
  let right : FVec Ideal S2048x32 .f32 := broadcastInDim S2048x32 ![] bcast_S_S2048x32 (constant S_ .f32 0x00000000#32)
  concatenate S2048x2560 1 [⟨S2048x2304, extractStridedSlice S2048x2304 ![0, 0] w slices_S2048x2336_S2048x2304_0_0⟩, ⟨S2048x64, left⟩,
    ⟨S2048x32, r⟩, ⟨S2048x32, right⟩, ⟨S2048x64, left⟩, ⟨S2048x32, rot⟩, ⟨S2048x32, right⟩]
    concatenates_S2048x2304_S2048x64_S2048x32_S2048x32_S2048x64_S2048x32_S2048x32_S2048x2560_d1

/-- The weight at the call's entry is the widened one. -/
theorem entry_wide (c : Dev nD) :
    @Eq (FVec Ideal S2048x2560 .bf16) (V m c main_v14)
      (truncf .bf16 (widened (shapeCast S2048x2336 (extractStridedSlice S1x2048x2336 ![0, 0, 0] (m ((c : Thread nD τ).loc main_arg1))
        slices_S2x2048x2336_S1x2048x2336_0_0_0) shapeCasts_S1x2048x2336_S2048x2336)) bitsLt_bf16_f32) := by
  rfl

set_option maxHeartbeats 1600000 in
/-- The widened weight read at an entry. -/
theorem widened_at (w : FVec Ideal S2048x2336 .f32) (k : Fin 2048) (n : Fin 2560) :
    widened w (ix2 k n) =
      (if h0 : n.val < 2304 then w (ix2 k ⟨n.val, by omega⟩)
      else if h1 : n.val < 2368 then 0
      else if h2 : n.val < 2400 then w (ix2 k ⟨n.val - 64, by omega⟩)
      else if h3 : n.val < 2496 then 0
      else if h4 : n.val < 2512 then Neg.neg (α := EReal) (w (ix2 k ⟨n.val - 176, by omega⟩))
      else if h5 : n.val < 2528 then w (ix2 k ⟨n.val - 208, by omega⟩)
      else 0 : EReal) := by
  pointwise [widened]
  split_ifs
  all_goals try (exfalso; omega)
  all_goals repeat (first | rw [dif_neg (by omega)] | rw [dif_pos (by omega)])
  all_goals first
    | rfl
    | (refine congrArg w (congrArg (ix2 k) (Fin.ext ?_)); simp only []; omega)
    | (refine congrArg (Neg.neg (α := EReal)) (congrArg w (congrArg (ix2 k) (Fin.ext ?_))); simp only []; omega)

/-- The weight at the call's entry. -/
theorem entry_w (c : Dev nD) (k : Fin 2048) (n : Fin 2560) :
    (V m c main_v14 : FVec Ideal S2048x2560 .bf16) (ix2 k n) = wide (m ((c : Thread nD τ).loc main_arg1)) k n := by
  refine (congrFun (entry_wide m c) (ix2 k n)).trans (Eq.trans (widened_at _ k n) ?_)
  unfold wide
  have e (j : Fin 2336) : (shapeCast S2048x2336 (extractStridedSlice S1x2048x2336 ![0, 0, 0] (m ((c : Thread nD τ).loc main_arg1))
        slices_S2x2048x2336_S1x2048x2336_0_0_0) shapeCasts_S1x2048x2336_S2048x2336 : FVec Ideal S2048x2336 .f32) (ix2 k j)
      = (m ((c : Thread nD τ).loc main_arg1) : FVec Ideal S2x2048x2336 .f32) (ix3 0 k j) := by
    pointwise
  simp only [e]

/-- The weight's block. -/
theorem blk_w (c : Dev nD) (t : Fin cfg0.N) (k : Fin 2048) (n : Fin 1280) :
    (iblk m c 1 t : FVec Ideal S2048x1280 .bf16) (ix2 k n)
      = wide (m ((c : Thread nD τ).loc main_arg1)) k ⟨t.val % 2 * 1280 + n.val, by omega⟩ := by
  have ht : t.val < 24 := lt_of_lt_of_eq t.isLt N_0
  rw [← entry_w m c k ⟨t.val % 2 * 1280 + n.val, by omega⟩]
  blk_ext [iblk, idx t]

/-- The block that point `t` stores is the result at the block's place. -/
theorem emb (c : Dev nD) (t : Fin cfg0.N) (y : S1408x1280.Idx) :
    k0_pay1 (F := Ideal) (iblk m c 0 t) (iblk m c 1 t) y
      = result (m ((c : Thread nD τ).loc main_arg0)) (m ((c : Thread nD τ).loc main_arg1)) (((View.whole main_v15).slice (win0_2.rect t)).emb y) := by
  idx_vars y
  have ht : t.val < 24 := lt_of_lt_of_eq t.isLt N_0
  have e : (((View.whole main_v15).slice (win0_2.rect t)).emb (ix2 y0 y1) : S16896x2560.Idx)
      = ix2 ⟨t.val / 2 * 1408 + y0.val, by omega⟩ ⟨t.val % 2 * 1280 + y1.val, by omega⟩ := by
    blk_ext [idx t]
  rw [e]
  pointwise [k0_pay1]
  simp only [blk_x m c t, blk_w m c t]
  rfl

/-- After the run the result is `result` of the arguments. -/
theorem final (c : Dev nD) : (dats m 0 c).arrAt 2 (cfgs 0).N = result (m ((c : Thread nD τ).loc main_arg0)) (m ((c : Thread nD τ).loc main_arg1)) := by
  refine (dats m 0 c).arrAt_eq_of_covers 2 _ (by decide +kernel) fun t _ y => ?_
  blk_simp
  rw [after0_2]; frame_out
  exact emb m c t y

end Cert.AttInValue

end
-- ==== Proof.AttInClaim.lean ====
module

public import proofs.«01_k».proof.Defs
public import proofs.«01_k».proof.Proof.AttInValue
public import proofs.«01_k».proof.Proof.RecInMath
public import proofs.«01_k».proof.Proof.Gen.Pre_finite
public import proofs.«01_k».proof.Proof.Gen.AttInRefIdeal.Run
public import proofs.«01_k».proof.Proof.Gen.AttInRefIdeal.Read
public import Idealize.ShloMosaic.Adequacy
public import Idealize.ShloMosaic.Init

@[expose] public section

set_option maxRecDepth 16384

noncomputable section

namespace Cert.AttInClaim

open Idealize.ShloMosaic Idealize.SL.Sem Idealize.ShloMosaic.TcCoe

/-- The integer zero of a padding is the number zero. -/
theorem zero_f32 : FloatOps.sitofp (F := Ideal) FTy.f32 0#32 = (0 : EReal) := by
  show (((0#32 : BitVec 32).toInt : ℝ) : EReal) = 0
  simp

/-- A number whose magnitude is below infinity is real. -/
theorem real_of_lt {x : EReal} (h : max x (-x) < ⊤) : ∃ r : ℝ, x = (r : EReal) := by
  induction x with
  | bot => simp at h
  | top => simp at h
  | coe r => exact ⟨r, rfl⟩

/-- A finite sum of reals is real. -/
theorem coe_sum {n : ℕ} (s : Finset (Fin n)) (f : Fin n → ℝ) : ((∑ k ∈ s, f k : ℝ) : EReal) = ∑ k ∈ s, (f k : EReal) := by
  induction s using Finset.induction_on with
  | empty => simp
  | insert a s ha ih => rw [Finset.sum_insert ha, Finset.sum_insert ha, EReal.coe_add, ih]

/-- A sum of products of reals changes its sign with the second factors. -/
theorem neg_sum {n : ℕ} (f g : Fin n → EReal) (hf : ∀ k, ∃ r : ℝ, f k = r) (hg : ∀ k, ∃ r : ℝ, g k = r) :
    ∑ k : Fin n, f k * -g k = -∑ k : Fin n, f k * g k := by
  choose a ha using hf
  choose b hb using hg
  simp only [ha, hb, ← EReal.coe_neg, ← EReal.coe_mul, ← coe_sum, mul_neg, Finset.sum_neg_distrib]

/-- Where a one-bit comparison is set, it holds. -/
theorem of_bit {p : Prop} [Decidable p] (h : BitVec.ofBool (decide p) = 1#1) : p := by
  by_contra q
  rw [decide_eq_false q] at h
  exact absurd h (by decide)

/-- The activations that the precondition admits are real. -/
theorem real_h (x0 : FVec Ideal Cert.AttInIdeal.S4x4112x2048 .bf16) (x1 : FVec Ideal Cert.AttInIdeal.S2x2048x2336 .f32)
    (h : Cert.Pre_finite.fn (F := Ideal) x0 x1 = fun _ => 1#1) (b : Fin 4) (l : Fin 4112) (k : Fin 2048) :
    ∃ r : ℝ, x0 (ix3 b l k) = (r : EReal) := by
  have e := congrFun h (ix2 ⟨b.val * 4112 + l.val, by omega⟩ k)
  have q : Cert.Pre_finite.fn (F := Ideal) x0 x1 (ix2 ⟨b.val * 4112 + l.val, by omega⟩ k)
      = BitVec.ofBool (decide (max (x0 (ix3 b l k) : EReal) (Neg.neg (α := EReal) (x0 (ix3 b l k))) < ⊤)) := by
    pointwise [Cert.Pre_finite.fn]
    rw [dif_pos (by omega), Cert.RecInMath.inf_f32]
    rfl
  exact real_of_lt (of_bit (q.symm.trans e))

/-- The weights that the precondition admits are real. -/
theorem real_w (x0 : FVec Ideal Cert.AttInIdeal.S4x4112x2048 .bf16) (x1 : FVec Ideal Cert.AttInIdeal.S2x2048x2336 .f32)
    (h : Cert.Pre_finite.fn (F := Ideal) x0 x1 = fun _ => 1#1) (k : Fin 2048) (n : Fin 16) :
    ∃ r : ℝ, x1 (ix3 0 k ⟨2320 + n.val, by omega⟩) = (r : EReal) := by
  have e := congrFun h (ix2 ⟨16448 + n.val, by omega⟩ k)
  have q : Cert.Pre_finite.fn (F := Ideal) x0 x1 (ix2 ⟨16448 + n.val, by omega⟩ k)
      = BitVec.ofBool (decide (max (x1 (ix3 0 k ⟨2320 + n.val, by omega⟩) : EReal) (Neg.neg (α := EReal) (x1 (ix3 0 k ⟨2320 + n.val, by omega⟩))) < ⊤)) := by
    pointwise [Cert.Pre_finite.fn]
    rw [Cert.RecInMath.inf_f32]
    rfl
  exact real_of_lt (of_bit (q.symm.trans e))

open Cert.AttInRefIdeal Cert.AttInRefIdeal.Gen in
/-- The reference's product at row `r`, column `n`. -/
theorem product (x0 : FVec Ideal S4x4112x2048 .bf16) (x1 : FVec Ideal S2x2048x2336 .f32) (r : Fin 16896) (n : Fin 2336) :
    Cert.AttInRefIdeal.Read.val_main_v5 (F := Ideal) x0 x1 (ix2 r n) = ∑ k : Fin 2048, Cert.AttInValue.framed x0 r.val k * x1 (ix3 0 k n) := by
  unfold Cert.AttInRefIdeal.Read.val_main_v5 Cert.AttInRefIdeal.Read.val_main_v2 Cert.AttInRefIdeal.Read.val_main_v4
    Cert.AttInRefIdeal.Read.val_main_v3 Cert.AttInRefIdeal.Read.val_main_v1
  pointwise [Cert.AttInValue.framed]
  refine Finset.sum_congr rfl fun k _ => congrArg (· * _) ?_
  by_cases hp : 112 ≤ r.val % 4224
  · rw [dif_pos ⟨by omega, hp, by omega⟩, dif_pos hp]
    rfl
  · rw [dif_neg fun h => hp h.2.1, dif_neg hp]
    exact zero_f32

open Cert.AttInRefIdeal Cert.AttInRefIdeal.Gen in
set_option maxHeartbeats 1600000 in
/-- The reference's result in terms of its product. -/
theorem columns (x0 : FVec Ideal S4x4112x2048 .bf16) (x1 : FVec Ideal S2x2048x2336 .f32) (r : Fin 16896) (n : Fin 2560) :
    Cert.AttInRefIdeal.Read.val_main_v14 (F := Ideal) x0 x1 (ix2 r n) =
      (if h0 : n.val < 2304 then Cert.AttInRefIdeal.Read.val_main_v5 (F := Ideal) x0 x1 (ix2 r ⟨n.val, by omega⟩)
      else if h1 : n.val < 2368 then 0
      else if h2 : n.val < 2400 then Cert.AttInRefIdeal.Read.val_main_v5 (F := Ideal) x0 x1 (ix2 r ⟨n.val - 64, by omega⟩)
      else if h3 : n.val < 2496 then 0
      else if h4 : n.val < 2512 then
        Neg.neg (α := EReal) (Cert.AttInRefIdeal.Read.val_main_v5 (F := Ideal) x0 x1 (ix2 r ⟨n.val - 176, by omega⟩))
      else if h5 : n.val < 2528 then Cert.AttInRefIdeal.Read.val_main_v5 (F := Ideal) x0 x1 (ix2 r ⟨n.val - 208, by omega⟩)
      else 0 : EReal) := by
  unfold Cert.AttInRefIdeal.Read.val_main_v14 Cert.AttInRefIdeal.Read.val_main_v13 Cert.AttInRefIdeal.Read.val_main_v12
    Cert.AttInRefIdeal.Read.val_main_v11 Cert.AttInRefIdeal.Read.val_main_v10 Cert.AttInRefIdeal.Read.val_main_v9
    Cert.AttInRefIdeal.Read.val_main_v8 Cert.AttInRefIdeal.Read.val_main_v7 Cert.AttInRefIdeal.Read.val_main_v6
  generalize Cert.AttInRefIdeal.Read.val_main_v5 (F := Ideal) x0 x1 = z
  pointwise [Cert.AttInRefIdeal.Read.val_main_cst, Cert.AttInRefIdeal.Read.val_main_cst_0]
  split_ifs
  all_goals try (exfalso; omega)
  all_goals repeat (first | rw [dif_neg (by omega)] | rw [dif_pos (by omega)])
  all_goals first
    | rfl
    | (refine congrArg z (congrArg (ix2 r) (Fin.ext ?_)); simp only []; omega)
    | (refine congrArg (Neg.neg (α := EReal)) (congrArg z (congrArg (ix2 r) (Fin.ext ?_))); simp only []; omega)

/-- Where the precondition holds, the projection by the widened weight is the reference's result. -/
theorem result_eq (x0 : FVec Ideal Cert.AttInIdeal.S4x4112x2048 .bf16) (x1 : FVec Ideal Cert.AttInIdeal.S2x2048x2336 .f32)
    (h : Cert.Pre_finite.fn (F := Ideal) x0 x1 = fun _ => 1#1) :
    Cert.AttInValue.result x0 x1 = Cert.AttInRefIdeal.Read.val_main_v14 (F := Ideal) x0 x1 := by
  funext j
  idx_vars j
  refine Eq.trans ?_ (columns x0 x1 j0 j1).symm
  show ∑ k : Fin 2048, Cert.AttInValue.framed x0 j0.val k * Cert.AttInValue.wide x1 k j1 = _
  have hf (k : Fin 2048) : ∃ q : ℝ, Cert.AttInValue.framed x0 j0.val k = (q : EReal) := by
    unfold Cert.AttInValue.framed
    by_cases hr : 112 ≤ j0.val % 4224 ∧ j0.val < 16896
    · rw [dif_pos hr]
      exact real_h x0 x1 h _ _ k
    · exact ⟨0, by rw [dif_neg hr]; rfl⟩
  unfold Cert.AttInValue.wide
  by_cases h0 : j1.val < 2304
  · simp only [dif_pos h0]
    exact (product x0 x1 j0 _).symm
  simp only [dif_neg h0]
  by_cases h1 : j1.val < 2368
  · simp only [dif_pos h1, mul_zero, Finset.sum_const_zero]
  simp only [dif_neg h1]
  by_cases h2 : j1.val < 2400
  · simp only [dif_pos h2]
    exact (product x0 x1 j0 _).symm
  simp only [dif_neg h2]
  by_cases h3 : j1.val < 2496
  · simp only [dif_pos h3, mul_zero, Finset.sum_const_zero]
  simp only [dif_neg h3]
  by_cases h4 : j1.val < 2512
  · simp only [dif_pos h4]
    refine (neg_sum _ (fun k => x1 (ix3 0 k ⟨j1.val - 176, by omega⟩)) hf fun k => ?_).trans
      (congrArg (Neg.neg (α := EReal)) (product x0 x1 j0 _).symm)
    obtain ⟨q, e⟩ := real_w x0 x1 h k ⟨j1.val - 2496, by omega⟩
    exact ⟨q, (congrArg (fun i => x1 (ix3 0 k i)) (Fin.ext (by show j1.val - 176 = 2320 + (j1.val - 2496); omega))).trans e⟩
  simp only [dif_neg h4]
  by_cases h5 : j1.val < 2528
  · simp only [dif_pos h5]
    exact (product x0 x1 j0 _).symm
  simp only [dif_neg h5, mul_zero, Finset.sum_const_zero]

/-- The attention's input projection: where the activations and the negated weights are finite, kernel and reference have
    equal results over the extended reals. -/
theorem algebraic : Cert.algebraic_AttInIdeal_AttInRefIdeal_pre_finite (hAttInIdeal := Cert.AttInIdeal.Gen.facts)
    (hAttInRefIdeal := Cert.AttInRefIdeal.Gen.facts) (hPre_finite := Cert.Pre_finite.Gen.facts) := by
  pair_intro
  · run_from Cert.AttInIdeal.Gen.run_main m g
  · run_from Cert.AttInRefIdeal.Value.run m' g'
    rw [Cert.AttInValue.final m c]
    exact (Cert.AttInRefIdeal.Read.val_main_v14_eq _ _).trans (result_eq _ _ (hpre c)).symm

/-- The reference runs, leaves its arguments unchanged and has no counter to leave raised. -/
theorem frame_ref : Cert.quiescent_AttInRefIdeal (hAttInRefIdeal := Cert.AttInRefIdeal.Gen.facts) := fun m g _ =>
  (θ_run Cert.AttInRefIdeal.defs _ _).mono (fun r h => ⟨fun c => (h c).2, sem_eq_zero_of_no_sems (by decide) r.2⟩)
    (Cert.AttInRefIdeal.Value.run m g)

end Cert.AttInClaim

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.RecOut
public import proofs.«01_k».proof.Proof.Gen.RecOut.Frame
public import proofs.«01_k».proof.Proof.Gen.RecOutIdeal
public import proofs.«01_k».proof.Proof.Gen.RecOutIdeal.Frame
public import proofs.«01_k».proof.Proof.Gen.RecOutIdeal.Value
public import proofs.«01_k».proof.Proof.Gen.RecOutRefIdeal
public import proofs.«01_k».proof.Proof.Gen.RecOutRefIdeal.Run
public import proofs.«01_k».proof.Proof.Gen.RecOutRefIdeal.Read
public import proofs.«01_k».proof.Proof.Gen.AttOut
public import proofs.«01_k».proof.Proof.Gen.AttOut.Frame
public import proofs.«01_k».proof.Proof.Gen.AttOutIdeal
public import proofs.«01_k».proof.Proof.Gen.AttOutIdeal.Frame
public import proofs.«01_k».proof.Proof.Gen.AttOutIdeal.Value
public import proofs.«01_k».proof.Proof.Gen.AttOutRefIdeal
public import proofs.«01_k».proof.Proof.Gen.AttOutRefIdeal.Run
public import proofs.«01_k».proof.Proof.Gen.AttOutRefIdeal.Read
public import proofs.«01_k».proof.Proof.Gen.RecIn
public import proofs.«01_k».proof.Proof.Gen.RecIn.Frame
public import proofs.«01_k».proof.Proof.Gen.RecInIdeal
public import proofs.«01_k».proof.Proof.Gen.RecInIdeal.Frame
public import proofs.«01_k».proof.Proof.Gen.RecInIdeal.Value
public import proofs.«01_k».proof.Proof.Gen.RecInRefIdeal
public import proofs.«01_k».proof.Proof.Gen.RecInRefIdeal.Run
public import proofs.«01_k».proof.Proof.Gen.RecInRefIdeal.Read
public import proofs.«01_k».proof.Proof.Gen.AttIn
public import proofs.«01_k».proof.Proof.Gen.AttIn.Frame
public import proofs.«01_k».proof.Proof.Gen.AttInIdeal
public import proofs.«01_k».proof.Proof.Gen.AttInIdeal.Frame
public import proofs.«01_k».proof.Proof.Gen.AttInIdeal.Value
public import proofs.«01_k».proof.Proof.Gen.AttInRefIdeal
public import proofs.«01_k».proof.Proof.Gen.Pre_finite
public import proofs.«01_k».proof.Proof.Gen.AttInRefIdeal.Run
public import proofs.«01_k».proof.Proof.Gen.AttInRefIdeal.Read
public import proofs.«01_k».proof.Proof.FinalValue
public import proofs.«01_k».proof.Proof.FfnUpClaim
public import proofs.«01_k».proof.Proof.FfnDownClaim
public import proofs.«01_k».proof.Proof.RecOutClaim
public import proofs.«01_k».proof.Proof.AttOutClaim
public import proofs.«01_k».proof.Proof.RecInClaim
public import proofs.«01_k».proof.Proof.AttInClaim
public import Idealize.ShloMosaic.Adequacy
public import Idealize.ShloMosaic.Init

@[expose] public section

set_option maxRecDepth 16384

noncomputable section

namespace Cert.Proof

open Idealize.ShloMosaic Idealize.SL.Sem Idealize.ShloMosaic.TcCoe

/-- Final projection: kernel and reference have equal results over the extended reals. -/
theorem final_algebraic : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
  · run_from Cert.ReferenceIdeal.Value.run m' g'
    rw [Cert.FinalValue.final m c]
    funext j
    idx_vars j
    pointwise [Cert.FinalValue.result, Cert.FinalValue.normed, Cert.FinalValue.resid]

/-- The reference of the final projection runs, leaves its arguments unchanged and has no counter to leave raised. -/
theorem frame_ref : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- All the claims. -/
theorem claim : Cert.Claim :=
  ⟨Cert.Kernel.Gen.facts,
   Cert.KernelIdeal.Gen.facts,
   Cert.ReferenceIdeal.Gen.facts,
   Cert.FfnUp.Gen.facts,
   Cert.FfnUpIdeal.Gen.facts,
   Cert.FfnUpRefIdeal.Gen.facts,
   Cert.FfnDown.Gen.facts,
   Cert.FfnDownIdeal.Gen.facts,
   Cert.FfnDownRefIdeal.Gen.facts,
   Cert.RecOut.Gen.facts,
   Cert.RecOutIdeal.Gen.facts,
   Cert.RecOutRefIdeal.Gen.facts,
   Cert.AttOut.Gen.facts,
   Cert.AttOutIdeal.Gen.facts,
   Cert.AttOutRefIdeal.Gen.facts,
   Cert.RecIn.Gen.facts,
   Cert.RecInIdeal.Gen.facts,
   Cert.RecInRefIdeal.Gen.facts,
   Cert.AttIn.Gen.facts,
   Cert.AttInIdeal.Gen.facts,
   Cert.AttInRefIdeal.Gen.facts,
   Cert.Pre_finite.Gen.facts,
   fun m ρ _ => Cert.Kernel.Gen.frame m ρ,
   fun m ρ _ => Cert.KernelIdeal.Gen.frame m ρ,
   frame_ref,
   fun m ρ _ => Cert.FfnUp.Gen.frame m ρ,
   fun m ρ _ => Cert.FfnUpIdeal.Gen.frame m ρ,
   Cert.FfnUpClaim.frame_ref,
   fun m ρ _ => Cert.FfnDown.Gen.frame m ρ,
   fun m ρ _ => Cert.FfnDownIdeal.Gen.frame m ρ,
   Cert.FfnDownClaim.frame_ref,
   fun m ρ _ => Cert.RecOut.Gen.frame m ρ,
   fun m ρ _ => Cert.RecOutIdeal.Gen.frame m ρ,
   Cert.RecOutClaim.frame_ref,
   fun m ρ _ => Cert.AttOut.Gen.frame m ρ,
   fun m ρ _ => Cert.AttOutIdeal.Gen.frame m ρ,
   Cert.AttOutClaim.frame_ref,
   fun m ρ _ => Cert.RecIn.Gen.frame m ρ,
   fun m ρ _ => Cert.RecInIdeal.Gen.frame m ρ,
   Cert.RecInClaim.frame_ref,
   fun m ρ _ => Cert.AttIn.Gen.frame m ρ,
   fun m ρ _ => Cert.AttInIdeal.Gen.frame m ρ,
   fun m ρ _ => Cert.AttInIdeal.Gen.frame m ρ,
   Cert.AttInClaim.frame_ref,
   fun m ρ _ => Cert.AttInClaim.frame_ref m ρ trivial,
   trivial,
   final_algebraic,
   trivial,
   Cert.FfnUpClaim.algebraic,
   trivial,
   Cert.FfnDownClaim.algebraic,
   trivial,
   Cert.RecOutClaim.algebraic,
   trivial,
   Cert.AttOutClaim.algebraic,
   IdealRules.named_const.statement _ _ _ _ _ rfl,
   Cert.RecInClaim.algebraic,
   trivial,
   Cert.AttInClaim.algebraic⟩

end Cert.Proof

end
